-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_in_range [hPre_scale_in_range : Cert.Pre_scale_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scale_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_in_range [hPre_scale_in_range : Cert.Pre_scale_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scale_in_range [hKernelIdeal : Cert.KernelIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scale_in_range [hReferenceIdeal : Cert.ReferenceIdeal.Facts] [hPre_scale_in_range : Cert.Pre_scale_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_scale_in_range [hKernelIdeal : Cert.KernelIdeal.Facts] [hReferenceIdeal : Cert.ReferenceIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scale_in_range : Cert.Pre_scale_in_range.Facts),
    quiescent_Kernel (hKernel := hKernel)
    ∧ quiescent_KernelIdeal (hKernelIdeal := hKernelIdeal)
    ∧ quiescent_KernelIdeal_pre_scale_in_range (hKernelIdeal := hKernelIdeal) (hPre_scale_in_range := hPre_scale_in_range)
    ∧ quiescent_ReferenceIdeal (hReferenceIdeal := hReferenceIdeal)
    ∧ quiescent_ReferenceIdeal_pre_scale_in_range (hReferenceIdeal := hReferenceIdeal) (hPre_scale_in_range := hPre_scale_in_range)
    ∧ preserves_Kernel_KernelIdeal
    ∧ algebraic_KernelIdeal_ReferenceIdeal_pre_scale_in_range (hKernelIdeal := hKernelIdeal) (hReferenceIdeal := hReferenceIdeal) (hPre_scale_in_range := hPre_scale_in_range)
-- ==== Pre_scale_in_range.lean ====
abbrev S5x3x4x32x256 : Shape := ⟨5, ![5, 3, 4, 32, 256]⟩
abbrev S256 : Shape := ⟨1, ![256]⟩
abbrev S5x2x4x32x256 : Shape := ⟨5, ![5, 2, 4, 32, 256]⟩
abbrev S_ : Shape := ⟨0, ![]⟩
abbrev S3x3x3x256x512 : Shape := ⟨5, ![3, 3, 3, 256, 512]⟩
abbrev S512 : Shape := ⟨1, ![512]⟩
abbrev S5x3x4x32 : Shape := ⟨4, ![5, 3, 4, 32]⟩
abbrev S5x3x4x32x1 : Shape := ⟨5, ![5, 3, 4, 32, 1]⟩
abbrev S1x1x1x1x256 : Shape := ⟨5, ![1, 1, 1, 1, 256]⟩

class Facts : Prop where
  bitsLt_bf16_f32 : FTy.bits .bf16 < FTy.bits .f32
  reducesTo_S5x3x4x32x256_S5x3x4x32_d4 : S5x3x4x32x256.ReducesTo [4] S5x3x4x32
  h_S_ : 0 < S_.numel
  bcast_S5x3x4x32_S5x3x4x32x1_0_1_2_3 : S5x3x4x32.BroadcastsInDim S5x3x4x32x1 (![0, 1, 2, 3] : Fin 4 → Fin S5x3x4x32x1.rank)
  bcast_S_S5x3x4x32x1 : S_.BroadcastsInDim S5x3x4x32x1 (![] : Fin 0 → Fin S5x3x4x32x1.rank)
  bcast_S5x3x4x32x1_S5x3x4x32x256_0_1_2_3_4 : S5x3x4x32x1.BroadcastsInDim S5x3x4x32x256 (![0, 1, 2, 3, 4] : Fin 5 → Fin S5x3x4x32x256.rank)
  bcast_S256_S1x1x1x1x256_4 : S256.BroadcastsInDim S1x1x1x1x256 (![4] : Fin 1 → Fin S1x1x1x1x256.rank)
  bcast_S1x1x1x1x256_S5x3x4x32x256_0_1_2_3_4 : S1x1x1x1x256.BroadcastsInDim S5x3x4x32x256 (![0, 1, 2, 3, 4] : Fin 5 → Fin S5x3x4x32x256.rank)
  bcast_S_S5x3x4x32x256 : S_.BroadcastsInDim S5x3x4x32x256 (![] : Fin 0 → Fin S5x3x4x32x256.rank)
  reducesTo_S5x3x4x32x256_S_d0_1_2_3_4 : S5x3x4x32x256.ReducesTo [0, 1, 2, 3, 4] S_

variable [Facts]

def fn_part1 {F : FTy → Type} [FloatOps F] (main_arg3 : FVec F S_ .f32) (main_v13 : FVec F S5x3x4x32x256 .f32) (main_v17 : FVec F S5x3x4x32x256 .f32) (main_v18 : FVec F S5x3x4x32x256 .f32) : IVec S_ 1 :=
  let main_v19 : FVec F S5x3x4x32x256 .f32 := Host.divf main_v18 main_v17
  let main_v20 : FVec F S5x3x4x32x256 .f32 := mulf main_v13 main_v19
  let main_v21 : FVec F S5x3x4x32x256 .f32 := Host.absf main_v20
  let main_cst_4 : FVec F S_ .f32 := constant S_ .f32 0xFF800000#32
  let main_v22 : FVec F S_ .f32 := (fun x v => Host.reduce FloatOps.maximumf x v reducesTo_S5x3x4x32x256_S_d0_1_2_3_4 h_S_) main_v21 main_cst_4
  let main_cst_5 : FVec F S_ .f32 := constant S_ .f32 0x3B124925#32
  let main_v23 : FVec F S_ .f32 := mulf main_v22 main_cst_5
  let main_cst_6 : FVec F S_ .f32 := constant S_ .f32 0x00800000#32
  let main_v24 : IVec S_ 1 := cmpf .oge main_v23 main_cst_6
  let main_cst_7 : FVec F S_ .f32 := constant S_ .f32 0x7E800000#32
  let main_v25 : IVec S_ 1 := cmpf .olt main_v23 main_cst_7
  let main_v26 : IVec S_ 1 := andi main_v24 main_v25
  let main_cst_8 : FVec F S_ .f32 := constant S_ .f32 0x00000000#32
  let main_v27 : IVec S_ 1 := cmpf .oeq main_v22 main_cst_8
  let main_v28 : IVec S_ 1 := ori main_v27 main_v26
  let main_cst_9 : FVec F S_ .f32 := constant S_ .f32 0x00000000#32
  let main_v29 : IVec S_ 1 := cmpf .oge main_arg3 main_cst_9
  let main_v30 : IVec S_ 1 := andi main_v28 main_v29
  let main_cst_10 : FVec F S_ .f32 := constant S_ .f32 0x7F800000#32
  let main_v31 : IVec S_ 1 := cmpf .olt main_arg3 main_cst_10
  let main_v32 : IVec S_ 1 := andi main_v30 main_v31
  main_v32

def fn {F : FTy → Type} [FloatOps F] (main_arg0 : FVec F S5x3x4x32x256 .bf16) (main_arg1 : FVec F S256 .f32) (main_arg2 : FVec F S5x2x4x32x256 .fp8e4m3) (main_arg3 : FVec F S_ .f32) (main_arg4 : FVec F S3x3x3x256x512 .fp8e4m3) (main_arg5 : FVec F S512 .f32) (main_arg6 : FVec F S512 .f32) : IVec S_ 1 :=
  let main_v0 : FVec F S5x3x4x32x256 .f32 := (extf .f32 · bitsLt_bf16_f32) main_arg0
  let main_v1 : FVec F S5x3x4x32x256 .f32 := mulf main_v0 main_v0
  let main_cst : FVec F S_ .f32 := constant S_ .f32 0x00000000#32
  let main_v2 : FVec F S5x3x4x32 .f32 := (fun x v => Host.reduceAdd x v reducesTo_S5x3x4x32x256_S5x3x4x32_d4 h_S_) main_v1 main_cst
  let main_v3 : FVec F S5x3x4x32x1 .f32 := broadcastInDim S5x3x4x32x1 ![0, 1, 2, 3] bcast_S5x3x4x32_S5x3x4x32x1_0_1_2_3 main_v2
  let main_cst_0 : FVec F S_ .f32 := constant S_ .f32 0x43800000#32
  let main_v4 : FVec F S5x3x4x32x1 .f32 := broadcastInDim S5x3x4x32x1 ![] bcast_S_S5x3x4x32x1 main_cst_0
  let main_v5 : FVec F S5x3x4x32x1 .f32 := Host.divf main_v3 main_v4
  let main_cst_1 : FVec F S_ .f32 := constant S_ .f32 0x358637BD#32
  let main_v6 : FVec F S5x3x4x32x1 .f32 := broadcastInDim S5x3x4x32x1 ![] bcast_S_S5x3x4x32x1 main_cst_1
  let main_v7 : FVec F S5x3x4x32x1 .f32 := addf main_v5 main_v6
  let main_v8 : FVec F S5x3x4x32x1 .f32 := Host.rsqrt main_v7
  let main_v9 : FVec F S5x3x4x32x256 .f32 := broadcastInDim S5x3x4x32x256 ![0, 1, 2, 3, 4] bcast_S5x3x4x32x1_S5x3x4x32x256_0_1_2_3_4 main_v8
  let main_v10 : FVec F S5x3x4x32x256 .f32 := mulf main_v0 main_v9
  let main_v11 : FVec F S1x1x1x1x256 .f32 := broadcastInDim S1x1x1x1x256 ![4] bcast_S256_S1x1x1x1x256_4 main_arg1
  let main_v12 : FVec F S5x3x4x32x256 .f32 := broadcastInDim S5x3x4x32x256 ![0, 1, 2, 3, 4] bcast_S1x1x1x1x256_S5x3x4x32x256_0_1_2_3_4 main_v11
  let main_v13 : FVec F S5x3x4x32x256 .f32 := mulf main_v10 main_v12
  let main_v14 : FVec F S5x3x4x32x256 .f32 := Host.negf main_v13
  let main_v15 : FVec F S5x3x4x32x256 .f32 := Host.exp main_v14
  let main_cst_2 : FVec F S_ .f32 := constant S_ .f32 0x3F800000#32
  let main_v16 : FVec F S5x3x4x32x256 .f32 := broadcastInDim S5x3x4x32x256 ![] bcast_S_S5x3x4x32x256 main_cst_2
  let main_v17 : FVec F S5x3x4x32x256 .f32 := addf main_v16 main_v15
  let main_cst_3 : FVec F S_ .f32 := constant S_ .f32 0x3F800000#32
  let main_v18 : FVec F S5x3x4x32x256 .f32 := broadcastInDim S5x3x4x32x256 ![] bcast_S_S5x3x4x32x256 main_cst_3
  fn_part1 (F := F) main_arg3 main_v13 main_v17 main_v18
-- ==== Kernel.lean ====
abbrev S5x3x4x32x256 : Shape := ⟨5, ![5, 3, 4, 32, 256]⟩
abbrev S256 : Shape := ⟨1, ![256]⟩
abbrev S5x2x4x32x256 : Shape := ⟨5, ![5, 2, 4, 32, 256]⟩
abbrev S_ : Shape := ⟨0, ![]⟩
abbrev S3x3x3x256x512 : Shape := ⟨5, ![3, 3, 3, 256, 512]⟩
abbrev S512 : Shape := ⟨1, ![512]⟩
abbrev S1x256 : Shape := ⟨2, ![1, 256]⟩
abbrev S1x1 : Shape := ⟨2, ![1, 1]⟩
abbrev S1x512 : Shape := ⟨2, ![1, 512]⟩
abbrev S5x3x4x32x512 : Shape := ⟨5, ![5, 3, 4, 32, 512]⟩
abbrev S5x3x128x256 : Shape := ⟨4, ![5, 3, 128, 256]⟩
abbrev S3x5x5x192x256 : Shape := ⟨5, ![3, 5, 5, 192, 256]⟩
abbrev S8x256 : Shape := ⟨2, ![8, 256]⟩
abbrev S1x1x4x32x256 : Shape := ⟨5, ![1, 1, 4, 32, 256]⟩
abbrev S4x32x256 : Shape := ⟨3, ![4, 32, 256]⟩
abbrev S128x256 : Shape := ⟨2, ![128, 256]⟩
abbrev S128 : Shape := ⟨1, ![128]⟩
abbrev S128x1 : Shape := ⟨2, ![128, 1]⟩
abbrev S1x1x128x256 : Shape := ⟨4, ![1, 1, 128, 256]⟩
abbrev S16x8x256 : Shape := ⟨3, ![16, 8, 256]⟩
abbrev S1 : Shape := ⟨1, ![1]⟩
abbrev S32x256 : Shape := ⟨2, ![32, 256]⟩
abbrev S1x1x1x128x256 : Shape := ⟨5, ![1, 1, 1, 128, 256]⟩
abbrev S1x1x1x32x256 : Shape := ⟨5, ![1, 1, 1, 32, 256]⟩
abbrev S1x5x1x128x256 : Shape := ⟨5, ![1, 5, 1, 128, 256]⟩
abbrev S5x128x256 : Shape := ⟨3, ![5, 128, 256]⟩
abbrev S640x256 : Shape := ⟨2, ![640, 256]⟩
abbrev S1x1x1x256x512 : Shape := ⟨5, ![1, 1, 1, 256, 512]⟩
abbrev S256x512 : Shape := ⟨2, ![256, 512]⟩
abbrev S640x512 : Shape := ⟨2, ![640, 512]⟩
abbrev S5x4x32x512 : Shape := ⟨4, ![5, 4, 32, 512]⟩
abbrev S5x1x4x32x512 : Shape := ⟨5, ![5, 1, 4, 32, 512]⟩

abbrev nBuf : Space → Nat
  | .hbm => 14
  | .vmem => 11
  | .smem => 1
  | _ => 0

abbrev bufTy : (tb : Table) → Fin (tcTables nBuf tb) → BufTy
  | .hbm, ⟨0, _⟩ => ⟨S5x3x4x32x256, .bf16⟩
  | .hbm, ⟨1, _⟩ => ⟨S256, .f32⟩
  | .hbm, ⟨2, _⟩ => ⟨S5x2x4x32x256, .fp8e4m3⟩
  | .hbm, ⟨3, _⟩ => ⟨S_, .f32⟩
  | .hbm, ⟨4, _⟩ => ⟨S3x3x3x256x512, .fp8e4m3⟩
  | .hbm, ⟨5, _⟩ => ⟨S512, .f32⟩
  | .hbm, ⟨6, _⟩ => ⟨S512, .f32⟩
  | .hbm, ⟨7, _⟩ => ⟨S1x256, .f32⟩
  | .hbm, ⟨8, _⟩ => ⟨S1x1, .f32⟩
  | .hbm, ⟨9, _⟩ => ⟨S1x512, .f32⟩
  | .hbm, ⟨10, _⟩ => ⟨S1x512, .f32⟩
  | .hbm, ⟨11, _⟩ => ⟨S5x3x4x32x512, .bf16⟩
  | .hbm, ⟨12, _⟩ => ⟨S5x3x4x32x256, .fp8e4m3⟩
  | .hbm, ⟨13, _⟩ => ⟨S1x1, .f32⟩
  | .local _ .vmem, ⟨0, _⟩ => ⟨S5x3x4x32x256, .bf16⟩
  | .local _ .vmem, ⟨1, _⟩ => ⟨S1x256, .f32⟩
  | .local _ .vmem, ⟨2, _⟩ => ⟨S5x2x4x32x256, .fp8e4m3⟩
  | .local _ .vmem, ⟨3, _⟩ => ⟨S3x3x3x256x512, .fp8e4m3⟩
  | .local _ .vmem, ⟨4, _⟩ => ⟨S1x512, .f32⟩
  | .local _ .vmem, ⟨5, _⟩ => ⟨S1x512, .f32⟩
  | .local _ .vmem, ⟨6, _⟩ => ⟨S5x3x4x32x512, .bf16⟩
  | .local _ .vmem, ⟨7, _⟩ => ⟨S5x3x4x32x256, .fp8e4m3⟩
  | .local _ .vmem, ⟨8, _⟩ => ⟨S1x1, .f32⟩
  | .local _ .vmem, ⟨9, _⟩ => ⟨S5x3x128x256, .f32⟩
  | .local _ .vmem, ⟨10, _⟩ => ⟨S3x5x5x192x256, .fp8e4m3⟩
  | .local _ .smem, ⟨0, _⟩ => ⟨S1x1, .f32⟩
  | _, _ => ⟨S5x3x4x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S5x3x4x32x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x2x4x32x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x3x3x256x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x3x4x32x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x3x4x32x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S5x3x4x32x256 : Shape := ⟨5, ![5, 3, 4, 32, 256]⟩
abbrev S256 : Shape := ⟨1, ![256]⟩
abbrev S5x2x4x32x256 : Shape := ⟨5, ![5, 2, 4, 32, 256]⟩
abbrev S_ : Shape := ⟨0, ![]⟩
abbrev S3x3x3x256x512 : Shape := ⟨5, ![3, 3, 3, 256, 512]⟩
abbrev S512 : Shape := ⟨1, ![512]⟩
abbrev S1x1x1x1x256 : Shape := ⟨5, ![1, 1, 1, 1, 256]⟩
abbrev S1x1x1x1x1 : Shape := ⟨5, ![1, 1, 1, 1, 1]⟩
abbrev S1x512 : Shape := ⟨2, ![1, 512]⟩
abbrev S5x3x4x32x512 : Shape := ⟨5, ![5, 3, 4, 32, 512]⟩
abbrev S1x1 : Shape := ⟨2, ![1, 1]⟩
abbrev S5x3x4x32 : Shape := ⟨4, ![5, 3, 4, 32]⟩
abbrev S5x3x4x32x1 : Shape := ⟨5, ![5, 3, 4, 32, 1]⟩
abbrev S1x5x3x4x32x256 : Shape := ⟨6, ![1, 5, 3, 4, 32, 256]⟩
abbrev S1 : Shape := ⟨1, ![1]⟩
abbrev S1x1x1x1x1x1 : Shape := ⟨6, ![1, 1, 1, 1, 1, 1]⟩
abbrev S5x5x4x32x256 : Shape := ⟨5, ![5, 5, 4, 32, 256]⟩
abbrev S5x5x1x32x256 : Shape := ⟨5, ![5, 5, 1, 32, 256]⟩
abbrev S5x5x5x32x256 : Shape := ⟨5, ![5, 5, 5, 32, 256]⟩
abbrev S5x5x6x32x256 : Shape := ⟨5, ![5, 5, 6, 32, 256]⟩
abbrev S5x5x6x1x256 : Shape := ⟨5, ![5, 5, 6, 1, 256]⟩
abbrev S5x5x6x33x256 : Shape := ⟨5, ![5, 5, 6, 33, 256]⟩
abbrev S5x5x6x34x256 : Shape := ⟨5, ![5, 5, 6, 34, 256]⟩
abbrev S5x3x4x32x6912 : Shape := ⟨5, ![5, 3, 4, 32, 6912]⟩
abbrev S1920x6912 : Shape := ⟨2, ![1920, 6912]⟩
abbrev S6912x512 : Shape := ⟨2, ![6912, 512]⟩
abbrev S1920x512 : Shape := ⟨2, ![1920, 512]⟩

abbrev nBuf : Space → Nat
  | .hbm => 14
  | .vmem => 10
  | .smem => 0
  | _ => 0

abbrev bufTy : (tb : Table) → Fin (tcTables nBuf tb) → BufTy
  | .hbm, ⟨0, _⟩ => ⟨S5x3x4x32x256, .bf16⟩
  | .hbm, ⟨1, _⟩ => ⟨S256, .f32⟩
  | .hbm, ⟨2, _⟩ => ⟨S5x2x4x32x256, .fp8e4m3⟩
  | .hbm, ⟨3, _⟩ => ⟨S_, .f32⟩
  | .hbm, ⟨4, _⟩ => ⟨S3x3x3x256x512, .fp8e4m3⟩
  | .hbm, ⟨5, _⟩ => ⟨S512, .f32⟩
  | .hbm, ⟨6, _⟩ => ⟨S512, .f32⟩
  | .hbm, ⟨7, _⟩ => ⟨S1x1x1x1x256, .f32⟩
  | .hbm, ⟨8, _⟩ => ⟨S1x1x1x1x1, .f32⟩
  | .hbm, ⟨9, _⟩ => ⟨S1x512, .f32⟩
  | .hbm, ⟨10, _⟩ => ⟨S1x512, .f32⟩
  | .hbm, ⟨11, _⟩ => ⟨S5x3x4x32x512, .bf16⟩
  | .hbm, ⟨12, _⟩ => ⟨S5x3x4x32x256, .fp8e4m3⟩
  | .hbm, ⟨13, _⟩ => ⟨S1x1, .f32⟩
  | .local _ .vmem, ⟨0, _⟩ => ⟨S5x3x4x32x256, .bf16⟩
  | .local _ .vmem, ⟨1, _⟩ => ⟨S1x1x1x1x256, .f32⟩
  | .local _ .vmem, ⟨2, _⟩ => ⟨S5x2x4x32x256, .fp8e4m3⟩
  | .local _ .vmem, ⟨3, _⟩ => ⟨S1x1x1x1x1, .f32⟩
  | .local _ .vmem, ⟨4, _⟩ => ⟨S3x3x3x256x512, .fp8e4m3⟩
  | .local _ .vmem, ⟨5, _⟩ => ⟨S1x512, .f32⟩
  | .local _ .vmem, ⟨6, _⟩ => ⟨S1x512, .f32⟩
  | .local _ .vmem, ⟨7, _⟩ => ⟨S5x3x4x32x512, .bf16⟩
  | .local _ .vmem, ⟨8, _⟩ => ⟨S5x3x4x32x256, .fp8e4m3⟩
  | .local _ .vmem, ⟨9, _⟩ => ⟨S1x1, .f32⟩
  | _, _ => ⟨S5x3x4x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S5x3x4x32x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x1x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x2x4x32x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x3x3x256x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x3x4x32x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x3x4x32x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelArrays.lean ====
/-
  The kernel's arrays: its input blocks are the arguments (some with axes of extent 1 added), and each of its result arrays
  is the one block that its one grid point writes back.
-/
module

public import proofs.«01_k».proof.Proof.Gen.KernelIdeal.Value
public import Idealize.ShloMosaic.Lib.Pointwise
public import Idealize.ShloMosaic.Lib.StableHlo

@[expose] public section

noncomputable section

namespace Cert.KernelIdeal.Arrays

open Idealize.ShloMosaic Cert.KernelIdeal Cert.KernelIdeal.Gen Idealize.ShloMosaic.TcCoe Cert
open Idealize.ShloMosaic.Pipeline (Dat Cfg Window)

variable (m : (ℓ : Loc nD τ sig) → Buf (Elt Ideal) ℓ) (c : Dev nD)

/-- The one grid point. -/
def t₀ : Fin cfg0.N := ⟨0, by decide⟩

/-! ## The input blocks -/

/-- Input block 0 is argument 0. -/
theorem in0 : iblk m c 0 t₀ = m ((c : Thread nD τ).loc main_arg0) := by
  have hz : (fun a => (win0_0.index t₀) a * main_arg0.ty.shape.size a) = fun _ => 0 := funext fun a => by fin_cases a <;> decide
  have hr := fun f => Memref.read_access_unit_zero (Elt Ideal) main_arg0 hz (fun a => by fin_cases a <;> decide) f
  unfold iblk
  exact (hr _).trans (V_main_arg0 m c)

/-- Input block 2 is argument 2. -/
theorem in2 : iblk m c 2 t₀ = m ((c : Thread nD τ).loc main_arg2) := by
  have hz : (fun a => (win0_2.index t₀) a * main_arg2.ty.shape.size a) = fun _ => 0 := funext fun a => by fin_cases a <;> decide
  have hr := fun f => Memref.read_access_unit_zero (Elt Ideal) main_arg2 hz (fun a => by fin_cases a <;> decide) f
  unfold iblk
  exact (hr _).trans (V_main_arg2 m c)

/-- Input block 4 is argument 4. -/
theorem in4 : iblk m c 4 t₀ = m ((c : Thread nD τ).loc main_arg4) := by
  have hz : (fun a => (win0_4.index t₀) a * main_arg4.ty.shape.size a) = fun _ => 0 := funext fun a => by fin_cases a <;> decide
  have hr := fun f => Memref.read_access_unit_zero (Elt Ideal) main_arg4 hz (fun a => by fin_cases a <;> decide) f
  unfold iblk
  exact (hr _).trans (V_main_arg4 m c)

/-- Input block 1 is argument 1 in another shape. -/
theorem in1 : iblk m c 1 t₀ = shapeCast S1x256 (m ((c : Thread nD τ).loc main_arg1) : FVec Ideal S256 .f32) shapeCasts_S256_S1x256 := by
  have hz : (fun a => (win0_1.index t₀) a * main_v0.ty.shape.size a) = fun _ => 0 := funext fun a => by fin_cases a <;> decide
  have hr := fun f => Memref.read_access_unit_zero (Elt Ideal) main_v0 hz (fun a => by fin_cases a <;> decide) f
  have hv : V m c main_v0 = shapeCast S1x256 (m ((c : Thread nD τ).loc main_arg1) : FVec Ideal S256 .f32) shapeCasts_S256_S1x256 := by
    show StableHlo.after hostOps0 (fun b => m (c, b)) main_v0 = _
    after_results
    rfl
  unfold iblk
  exact (hr _).trans hv

/-- Input block 3 is argument 3 in another shape. -/
theorem in3 : iblk m c 3 t₀ = shapeCast S1x1 (m ((c : Thread nD τ).loc main_arg3) : FVec Ideal S_ .f32) shapeCasts_S_S1x1 := by
  have hz : (fun a => (win0_3.index t₀) a * main_v1.ty.shape.size a) = fun _ => 0 := funext fun a => by fin_cases a <;> decide
  have hr := fun f => Memref.read_access_unit_zero (Elt Ideal) main_v1 hz (fun a => by fin_cases a <;> decide) f
  have hv : V m c main_v1 = shapeCast S1x1 (m ((c : Thread nD τ).loc main_arg3) : FVec Ideal S_ .f32) shapeCasts_S_S1x1 := by
    show StableHlo.after hostOps0 (fun b => m (c, b)) main_v1 = _
    after_results
    rfl
  unfold iblk
  exact (hr _).trans hv

/-- Input block 5 is argument 5 in another shape. -/
theorem in5 : iblk m c 5 t₀ = shapeCast S1x512 (m ((c : Thread nD τ).loc main_arg5) : FVec Ideal S512 .f32) shapeCasts_S512_S1x512 := by
  have hz : (fun a => (win0_5.index t₀) a * main_v2.ty.shape.size a) = fun _ => 0 := funext fun a => by fin_cases a <;> decide
  have hr := fun f => Memref.read_access_unit_zero (Elt Ideal) main_v2 hz (fun a => by fin_cases a <;> decide) f
  have hv : V m c main_v2 = shapeCast S1x512 (m ((c : Thread nD τ).loc main_arg5) : FVec Ideal S512 .f32) shapeCasts_S512_S1x512 := by
    show StableHlo.after hostOps0 (fun b => m (c, b)) main_v2 = _
    after_results
    rfl
  unfold iblk
  exact (hr _).trans hv

/-- Input block 6 is argument 6 in another shape. -/
theorem in6 : iblk m c 6 t₀ = shapeCast S1x512 (m ((c : Thread nD τ).loc main_arg6) : FVec Ideal S512 .f32) shapeCasts_S512_S1x512 := by
  have hz : (fun a => (win0_6.index t₀) a * main_v3.ty.shape.size a) = fun _ => 0 := funext fun a => by fin_cases a <;> decide
  have hr := fun f => Memref.read_access_unit_zero (Elt Ideal) main_v3 hz (fun a => by fin_cases a <;> decide) f
  have hv : V m c main_v3 = shapeCast S1x512 (m ((c : Thread nD τ).loc main_arg6) : FVec Ideal S512 .f32) shapeCasts_S512_S1x512 := by
    show StableHlo.after hostOps0 (fun b => m (c, b)) main_v3 = _
    after_results
    rfl
  unfold iblk
  exact (hr _).trans hv

/-! ## The result arrays -/

/-- Result array 1 holds what the one grid point writes to it. -/
theorem res7 : (dats m 0 c).arrAt 7 cfg0.N
      = out0_A_7 c (ms0_0 t₀) (hs0_0 t₀) (ms0_1 t₀) (hs0_1 t₀) (ms0_2 t₀) (hs0_2 t₀) (ms0_3 t₀) (hs0_3 t₀) (ms0_4 t₀) (hs0_4 t₀)
        (ms0_5 t₀) (hs0_5 t₀) (ms0_6 t₀) (hs0_6 t₀) (ms0_7 t₀) (hs0_7 t₀) (ms0_8 t₀) (hs0_8 t₀) (ms0_9 t₀) (hs0_9 t₀)
        scM0_0 (Memref.isWhole_whole _) scM0_1 (Memref.isWhole_whole _)
        (iblk m c 0 t₀) (iblk m c 1 t₀) (iblk m c 2 t₀) (iblk m c 3 t₀) (iblk m c 4 t₀) (iblk m c 5 t₀) (iblk m c 6 t₀) := by
  have ho := Value.blocks7 m c t₀ (by decide)
  have hz : (fun a => (win0_7.index t₀) a * main_v4_0.ty.shape.size a) = fun _ => 0 := funext fun a => by fin_cases a <;> decide
  have hr := fun f => Memref.read_access_unit_zero (Elt Ideal) main_v4_0 hz (fun a => by fin_cases a <;> decide) f
  exact (hr _).symm.trans (ho.trans (Value.flushed7_A m c t₀))

/-- Result array 2 holds what the one grid point writes to it. -/
theorem res8 : (dats m 0 c).arrAt 8 cfg0.N
      = out0_A_8 c (ms0_0 t₀) (hs0_0 t₀) (ms0_1 t₀) (hs0_1 t₀) (ms0_2 t₀) (hs0_2 t₀) (ms0_3 t₀) (hs0_3 t₀) (ms0_4 t₀) (hs0_4 t₀)
        (ms0_5 t₀) (hs0_5 t₀) (ms0_6 t₀) (hs0_6 t₀) (ms0_7 t₀) (hs0_7 t₀) (ms0_8 t₀) (hs0_8 t₀) (ms0_9 t₀) (hs0_9 t₀)
        scM0_0 (Memref.isWhole_whole _) scM0_1 (Memref.isWhole_whole _)
        (iblk m c 0 t₀) (iblk m c 1 t₀) (iblk m c 2 t₀) (iblk m c 3 t₀) (iblk m c 4 t₀) (iblk m c 5 t₀) (iblk m c 6 t₀) := by
  have ho := Value.blocks8 m c t₀ (by decide)
  have hz : (fun a => (win0_8.index t₀) a * main_v4_1.ty.shape.size a) = fun _ => 0 := funext fun a => by fin_cases a <;> decide
  have hr := fun f => Memref.read_access_unit_zero (Elt Ideal) main_v4_1 hz (fun a => by fin_cases a <;> decide) f
  exact (hr _).symm.trans (ho.trans (Value.flushed8_A m c t₀))

/-- Result array 3 holds what the one grid point writes to it. -/
theorem res9 : (dats m 0 c).arrAt 9 cfg0.N
      = out0_A_9 c (ms0_0 t₀) (hs0_0 t₀) (ms0_1 t₀) (hs0_1 t₀) (ms0_2 t₀) (hs0_2 t₀) (ms0_3 t₀) (hs0_3 t₀) (ms0_4 t₀) (hs0_4 t₀)
        (ms0_5 t₀) (hs0_5 t₀) (ms0_6 t₀) (hs0_6 t₀) (ms0_7 t₀) (hs0_7 t₀) (ms0_8 t₀) (hs0_8 t₀) (ms0_9 t₀) (hs0_9 t₀)
        scM0_0 (Memref.isWhole_whole _) scM0_1 (Memref.isWhole_whole _)
        (iblk m c 0 t₀) (iblk m c 1 t₀) (iblk m c 2 t₀) (iblk m c 3 t₀) (iblk m c 4 t₀) (iblk m c 5 t₀) (iblk m c 6 t₀) := by
  have ho := Value.blocks9 m c t₀ (by decide)
  have hz : (fun a => (win0_9.index t₀) a * main_v4_2.ty.shape.size a) = fun _ => 0 := funext fun a => by fin_cases a <;> decide
  have hr := fun f => Memref.read_access_unit_zero (Elt Ideal) main_v4_2 hz (fun a => by fin_cases a <;> decide) f
  exact (hr _).symm.trans (ho.trans (Value.flushed9_A m c t₀))

end Cert.KernelIdeal.Arrays

end
-- ==== Proof.Words.lean ====
/-
  The kernel's payloads in one vocabulary: the functions below state each stage of the kernel's body once, for any
  block; `Pieces.lean` shows that the run's 259 stores are these functions at the blocks they are taken of.
-/
module

public import proofs.«01_k».proof.Proof.Gen.KernelIdeal.Skeleton

@[expose] public section

noncomputable section

namespace Cert.KernelIdeal.Words

open Idealize.ShloMosaic Cert.KernelIdeal.Gen

variable {F : FTy → Type} [FloatOps F]

/-- The activations of one frame of one video, as a 128×256 matrix: RMS-normalised, scaled, then gated by its logistic. -/
def act (g : Vec F S1x256 .f32) (x : Vec F S1x1x4x32x256 .bf16) : FVec F S128x256 .f32 := k0_pay3 g x

/-- … as the kernel stores it in its scratch. -/
def actBlock (g : Vec F S1x256 .f32) (x : Vec F S1x1x4x32x256 .bf16) : FVec F S1x1x128x256 .f32 :=
  shapeCast S1x1x128x256 (act g x) shapeCasts_S128x256_S1x1x128x256

/-- The running maximum of magnitudes, one frame further. -/
def maxStep (g : Vec F S1x256 .f32) (m : FVec F S8x256 .f32) (x : Vec F S1x1x4x32x256 .bf16) : FVec F S8x256 .f32 :=
  maximumf m (multiReduction .maximumf [0] S8x256 (shapeCast S16x8x256 (absf (act g x)) shapeCasts_S128x256_S16x8x256)
    0xFF800000#32 reduces_S16x8x256_S8x256 (.inl rfl) rfl)

/-- The pairs (video, frame) in the order the kernel visits them. -/
def visits : List (Fin 5 × Fin 3) := [(0, 0), (0, 1), (0, 2), (1, 0), (1, 1), (1, 2), (2, 0), (2, 1), (2, 2),
  (3, 0), (3, 1), (3, 2), (4, 0), (4, 1), (4, 2)]

/-- The running maximum after all frames. -/
def maxAll (g : Vec F S1x256 .f32) (xb : Fin 5 → Fin 3 → Vec F S1x1x4x32x256 .bf16) : FVec F S8x256 .f32 :=
  visits.foldl (fun m p => maxStep g m (xb p.1 p.2)) (broadcast S8x256 (Scalar.ofBits .f32 0x00000000#32))

/-- The largest magnitude over 448. -/
def ratio (m : FVec F S8x256 .f32) : FVec F S1x1 .f32 :=
  mulf (shapeCast S1x1 (multiReduction .maximumf [1] S1 (shapeCast S1x256
    (multiReduction .maximumf [0] S256 m 0xFF800000#32 reduces_S8x256_S256 (.inl rfl) rfl) shapeCasts_S256_S1x256)
    0xFF800000#32 reduces_S1x256_S1 (.inl rfl) rfl) shapeCasts_S1_S1x1) (broadcast S1x1 (Scalar.ofBits .f32 0x3B124925#32))

/-- One step of the search for the biased exponent of `v`: keep `b` when `v` is below the power that `b + s` denotes. -/
def searchStep (v : FVec F S1x1 .f32) (b : IVec S1x1 32) (s : BitVec 32) : IVec S1x1 32 :=
  select (cmpf .olt v (bitcastToFloat .f32 (shli (addi b (broadcast S1x1 s)) (broadcast S1x1 23#32))))
    b (addi b (broadcast S1x1 s))

/-- The biased exponent of `v`. -/
def biased (v : FVec F S1x1 .f32) : IVec S1x1 32 :=
  [128#32, 64#32, 32#32, 16#32, 8#32, 4#32, 2#32, 1#32].foldl (searchStep v) (broadcast S1x1 0#32)

/-- The exponent of the scale. -/
def expo (v : FVec F S1x1 .f32) : IVec S1x1 32 :=
  select (cmpi .eq (biased v) (broadcast S1x1 0#32)) (broadcast S1x1 0#32) (subi (biased v) (broadcast S1x1 126#32))

/-- The scale, `2 ^ expo`. -/
def scale (v : FVec F S1x1 .f32) : FVec F S1x1 .f32 :=
  bitcastToFloat .f32 (shli (addi (broadcast S1x1 127#32) (expo v)) (broadcast S1x1 23#32))

/-- Its reciprocal, `2 ^ -expo`. -/
def inv (v : FVec F S1x1 .f32) : FVec F S1x1 .f32 :=
  bitcastToFloat .f32 (shli (subi (broadcast S1x1 127#32) (expo v)) (broadcast S1x1 23#32))

/-- The codes of one frame: the activations over the scale, clipped to ±448. -/
def codes (i : FVec F S1x1 .f32) (h : Vec F S1x1x128x256 .f32) : FVec F S128x256 .fp8e4m3 :=
  truncf .fp8e4m3 (minimumf (broadcast S128x256 (Scalar.ofBits .f32 0x43E00000#32))
    (maximumf (broadcast S128x256 (Scalar.ofBits .f32 0xC3E00000#32))
      (mulf (shapeCast S128x256 h shapeCasts_S1x1x128x256_S128x256) (broadcastTo S128x256 i broadcasts_S1x1_S128x256))))
    bitsLt_fp8e4m3_f32

/-- … as they are stored as a result. -/
def codesBlock (i : FVec F S1x1 .f32) (h : Vec F S1x1x128x256 .f32) : FVec F S1x1x4x32x256 .fp8e4m3 :=
  shapeCast S1x1x4x32x256 (shapeCast S4x32x256 (codes i h) shapeCasts_S128x256_S4x32x256) shapeCasts_S4x32x256_S1x1x4x32x256

/-- The codes of one new frame, widened. -/
def newRows (i : FVec F S1x1 .f32) (h : Vec F S1x1x128x256 .f32) : FVec F S128x256 .f32 :=
  extf .f32 (codes i h) bitsLt_fp8e4m3_f32

/-- The codes of one cached frame, widened. -/
def oldRows (x : Vec F S1x1x4x32x256 .fp8e4m3) : FVec F S128x256 .f32 :=
  extf .f32 (shapeCast S128x256 (shapeCast S4x32x256 x shapeCasts_S1x1x4x32x256_S4x32x256) shapeCasts_S4x32x256_S128x256)
    bitsLt_fp8e4m3_f32

/-- The rows as stored for the tap's column `kw`: moved one position right (0 entering at the left border of each image
    row), as they are, or one position left (0 entering at the right border). -/
def shifted (kw : Fin 3) (a : FVec F S128x256 .f32) : FVec F S1x1x1x128x256 .fp8e4m3 :=
  match kw with
  | 0 => shapeCast S1x1x1x128x256 (truncf .fp8e4m3 (select (cmpi .eq k0_pay61 (broadcast S128x256 0#32))
      (broadcast S128x256 (Scalar.ofBits .f32 0x00000000#32)) (dynamicRotate 0 1#32 none a rotates_S128x256_d0))
      bitsLt_fp8e4m3_f32) shapeCasts_S128x256_S1x1x1x128x256
  | 1 => shapeCast S1x1x1x128x256 (truncf .fp8e4m3 a bitsLt_fp8e4m3_f32) shapeCasts_S128x256_S1x1x1x128x256
  | 2 => shapeCast S1x1x1x128x256 (truncf .fp8e4m3 (select (cmpi .eq k0_pay61 (broadcast S128x256 31#32))
      (broadcast S128x256 (Scalar.ofBits .f32 0x00000000#32)) (dynamicRotate 0 127#32 none a rotates_S128x256_d0))
      bitsLt_fp8e4m3_f32) shapeCasts_S128x256_S1x1x1x128x256

/-- A padding image row: 32 rows of zeros. -/
def zeroRows : FVec F S1x1x1x32x256 .fp8e4m3 := shapeCast S1x1x1x32x256 k0_pay60 shapeCasts_S32x256_S1x1x1x32x256

/-- The product of one tap. -/
def tap (p : Vec F S1x5x1x128x256 .fp8e4m3) (w : Vec F S1x1x1x256x512 .fp8e4m3) : FVec F S640x512 .f32 :=
  matmul dot_S640x256_S256x512_S640x512_1_0_0_1_n_n none
    (shapeCast S640x256 (shapeCast S5x128x256 p shapeCasts_S1x5x1x128x256_S5x128x256) shapeCasts_S5x128x256_S640x256)
    (shapeCast S256x512 w shapeCasts_S1x1x1x256x512_S256x512) (constant S640x512 .f32 0x00000000#32)

/-- The taps (frame, row, column) of the frame offset `kt`. -/
def taps (kt : Fin 3) : List (Fin 3 × Fin 3 × Fin 3) :=
  [(kt, 0, 0), (kt, 0, 1), (kt, 0, 2), (kt, 1, 0), (kt, 1, 1), (kt, 1, 2), (kt, 2, 0), (kt, 2, 1), (kt, 2, 2)]

/-- A left-nested sum of matrices. -/
def total : List (FVec F S640x512 .f32) → FVec F S640x512 .f32
  | [] => constant S640x512 .f32 0x00000000#32
  | a :: l => l.foldl addf a

/-- The output frame from the accumulator: scaled by the weights' scales, shifted by the bias, stored frame-wise. -/
def finish (acc : FVec F S640x512 .f32) (ws bias : Vec F S1x512 .f32) : FVec F S5x1x4x32x512 .bf16 :=
  shapeCast S5x1x4x32x512 (shapeCast S5x4x32x512 (truncf .bf16 (addf (mulf acc
    (broadcastTo S640x512 (shapeCast S1x512 ws shapeCasts_S1x512_S1x512) broadcasts_S1x512_S640x512))
    (broadcastTo S640x512 (shapeCast S1x512 bias shapeCasts_S1x512_S1x512) broadcasts_S1x512_S640x512)) bitsLt_bf16_f32)
    shapeCasts_S640x512_S5x4x32x512) shapeCasts_S5x4x32x512_S5x1x4x32x512

/-- The sum of the new frames' taps, at the scale of their codes. -/
def newPart (s : FVec F S1x1 .f32) (l : List (FVec F S640x512 .f32)) : FVec F S640x512 .f32 :=
  mulf (total l) (broadcastTo S640x512 s broadcasts_S1x1_S640x512)

/-- The sum of the cached frames' taps, at the scale of the cache. -/
def oldPart (cs : Elt F .f32) (l : List (FVec F S640x512 .f32)) : FVec F S640x512 .f32 :=
  mulf (total l) (broadcast S640x512 cs)

/-- The store rectangles of one frame of the padded codes lie in the scratch. -/
theorem inb_rows (kw : Fin 3) (b f : Fin 5) : ∀ a, (![(kw : ℕ), (b : ℕ), (f : ℕ), 32, 0] : Fin 5 → ℕ) a + S1x1x1x128x256.size a
    ≤ S3x5x5x192x256.size a := by
  intro a; fin_cases a <;> simp <;> omega

/-- The upper padding row lies inside the scratch. -/
theorem inb_top (kw : Fin 3) (b f : Fin 5) : ∀ a, (![(kw : ℕ), (b : ℕ), (f : ℕ), 0, 0] : Fin 5 → ℕ) a + S1x1x1x32x256.size a
    ≤ S3x5x5x192x256.size a := by
  intro a; fin_cases a <;> simp <;> omega

/-- The lower padding row lies inside the scratch. -/
theorem inb_bottom (kw : Fin 3) (b f : Fin 5) : ∀ a, (![(kw : ℕ), (b : ℕ), (f : ℕ), 160, 0] : Fin 5 → ℕ) a + S1x1x1x32x256.size a
    ≤ S3x5x5x192x256.size a := by
  intro a; fin_cases a <;> simp <;> omega

/-- The stores of one frame for one column offset, last first: the row below the image, the row above it, the image. -/
def putOne (kw : Fin 3) (b f : Fin 5) (a : FVec F S128x256 .f32) : List (View.Piece (Elt F) S3x5x5x192x256 .fp8e4m3) :=
  [⟨Rect.unit ![(kw : ℕ), (b : ℕ), (f : ℕ), 160, 0] S1x1x1x32x256.size (inb_bottom kw b f), zeroRows⟩,
   ⟨Rect.unit ![(kw : ℕ), (b : ℕ), (f : ℕ), 0, 0] S1x1x1x32x256.size (inb_top kw b f), zeroRows⟩,
   ⟨Rect.unit ![(kw : ℕ), (b : ℕ), (f : ℕ), 32, 0] S1x1x1x128x256.size (inb_rows kw b f), shifted kw a⟩]

/-- The stores of one frame. -/
def put (b f : Fin 5) (a : FVec F S128x256 .f32) : List (View.Piece (Elt F) S3x5x5x192x256 .fp8e4m3) :=
  putOne 2 b f a ++ putOne 1 b f a ++ putOne 0 b f a

/-- The stores of one video. -/
def putVideo (old : Fin 5 → Fin 2 → FVec F S128x256 .f32) (new : Fin 5 → Fin 3 → FVec F S128x256 .f32) (b : Fin 5) :
    List (View.Piece (Elt F) S3x5x5x192x256 .fp8e4m3) :=
  put b 4 (new b 2) ++ put b 3 (new b 1) ++ put b 2 (new b 0) ++ put b 1 (old b 1) ++ put b 0 (old b 0)

/-- All the stores of padded codes. -/
def putAll (old : Fin 5 → Fin 2 → FVec F S128x256 .f32) (new : Fin 5 → Fin 3 → FVec F S128x256 .f32) :
    List (View.Piece (Elt F) S3x5x5x192x256 .fp8e4m3) :=
  putVideo old new 4 ++ putVideo old new 3 ++ putVideo old new 2 ++ putVideo old new 1 ++ putVideo old new 0

/-- A frame of activations lies inside its scratch. -/
theorem inb_act (b : Fin 5) (f : Fin 3) : ∀ a, (![(b : ℕ), (f : ℕ), 0, 0] : Fin 4 → ℕ) a + S1x1x128x256.size a
    ≤ S5x3x128x256.size a := by
  intro a; fin_cases a <;> simp <;> omega

/-- A new frame lies inside the input. -/
theorem inb_new (b : Fin 5) (f : Fin 3) : ∀ a, (![(b : ℕ), (f : ℕ), 0, 0, 0] : Fin 5 → ℕ) a + S1x1x4x32x256.size a
    ≤ S5x3x4x32x256.size a := by
  intro a; fin_cases a <;> simp <;> omega

/-- A cached frame lies inside the cache. -/
theorem inb_old (b : Fin 5) (f : Fin 2) : ∀ a, (![(b : ℕ), (f : ℕ), 0, 0, 0] : Fin 5 → ℕ) a + S1x1x4x32x256.size a
    ≤ S5x2x4x32x256.size a := by
  intro a; fin_cases a <;> simp <;> omega

/-- A tap's matrix lies inside the weights. -/
theorem inb_weight (kt kh kw : Fin 3) : ∀ a, (![(kt : ℕ), (kh : ℕ), (kw : ℕ), 0, 0] : Fin 5 → ℕ) a + S1x1x1x256x512.size a
    ≤ S3x3x3x256x512.size a := by
  intro a; fin_cases a <;> simp <;> omega

/-- A tap's window lies inside the scratch. -/
theorem inb_window (kw : Fin 3) (f : Fin 5) (kh : Fin 3) : ∀ a, (![(kw : ℕ), 0, (f : ℕ), 32 * (kh : ℕ), 0] : Fin 5 → ℕ) a
    + S1x5x1x128x256.size a ≤ S3x5x5x192x256.size a := by
  intro a; fin_cases a <;> simp <;> omega

/-- An output frame lies inside the output. -/
theorem inb_frame (f : Fin 3) : ∀ a, (![0, (f : ℕ), 0, 0, 0] : Fin 5 → ℕ) a + S5x1x4x32x512.size a
    ≤ S5x3x4x32x512.size a := by
  intro a; fin_cases a <;> simp <;> omega

/-- The stores of activations, last first. -/
def actPieces (g : Vec F S1x256 .f32) (xb : Fin 5 → Fin 3 → Vec F S1x1x4x32x256 .bf16) :
    List (View.Piece (Elt F) S5x3x128x256 .f32) :=
  visits.reverse.map fun p => ⟨Rect.unit ![(p.1 : ℕ), (p.2 : ℕ), 0, 0] S1x1x128x256.size (inb_act p.1 p.2), actBlock g (xb p.1 p.2)⟩

/-- The stores of result codes, last first. -/
def codePieces (i : FVec F S1x1 .f32) (hb : Fin 5 → Fin 3 → Vec F S1x1x128x256 .f32) :
    List (View.Piece (Elt F) S5x3x4x32x256 .fp8e4m3) :=
  visits.reverse.map fun p =>
    ⟨Rect.unit ![(p.1 : ℕ), (p.2 : ℕ), 0, 0, 0] S1x1x4x32x256.size (inb_new p.1 p.2), codesBlock i (hb p.1 p.2)⟩

/-- The taps of output frame `f`, as products. -/
def prods (pb : Fin 3 → Fin 5 → Fin 3 → Vec F S1x5x1x128x256 .fp8e4m3)
    (wb : Fin 3 → Fin 3 → Fin 3 → Vec F S1x1x1x256x512 .fp8e4m3) (f : Fin 3) (l : List (Fin 3 × Fin 3 × Fin 3)) :
    List (FVec F S640x512 .f32) :=
  l.map fun t => tap (pb t.2.2 ⟨f + t.1, by omega⟩ t.2.1) (wb t.1 t.2.1 t.2.2)

/-- The three stores of output frames, last first: frames 0 and 1 see cached frames, frame 2 does not. -/
def outPieces (s : FVec F S1x1 .f32) (cs : Elt F .f32) (pb : Fin 3 → Fin 5 → Fin 3 → Vec F S1x5x1x128x256 .fp8e4m3)
    (wb : Fin 3 → Fin 3 → Fin 3 → Vec F S1x1x1x256x512 .fp8e4m3) (ws bias : Vec F S1x512 .f32) :
    List (View.Piece (Elt F) S5x3x4x32x512 .bf16) :=
  [⟨Rect.unit ![0, ((2 : Fin 3) : ℕ), 0, 0, 0] S5x1x4x32x512.size (inb_frame 2),
     finish (newPart s (prods pb wb 2 (taps 0 ++ taps 1 ++ taps 2))) ws bias⟩,
   ⟨Rect.unit ![0, ((1 : Fin 3) : ℕ), 0, 0, 0] S5x1x4x32x512.size (inb_frame 1),
     finish (addf (newPart s (prods pb wb 1 (taps 1 ++ taps 2))) (oldPart cs (prods pb wb 1 (taps 0)))) ws bias⟩,
   ⟨Rect.unit ![0, ((0 : Fin 3) : ℕ), 0, 0, 0] S5x1x4x32x512.size (inb_frame 0),
     finish (addf (newPart s (prods pb wb 0 (taps 2))) (oldPart cs (prods pb wb 0 (taps 0 ++ taps 1)))) ws bias⟩]

end Cert.KernelIdeal.Words

end
-- ==== Proof.Pieces.lean ====
/-
  The run's stores, in the vocabulary of `Words.lean`: each list of stores the run was found to make is one uniform list.
  Each statement is true by unfolding: the payloads cut the same operations at other places.
-/
module

public import proofs.«01_k».proof.Proof.Words
public import proofs.«01_k».proof.Proof.Gen.KernelIdeal.Frame

@[expose] public section

set_option maxRecDepth 100000

noncomputable section

namespace Cert.KernelIdeal.Pieces

open Idealize.ShloMosaic Cert.KernelIdeal Cert.KernelIdeal.Gen Cert.KernelIdeal.Words

variable {F : FTy → Type} [FloatOps F]
variable (c : Dev nD)
  (arg0 : Memref sig .tc .vmem S5x3x4x32x256 .bf16) (harg0 : arg0.IsWhole)
  (arg1 : Memref sig .tc .vmem S1x256 .f32) (harg1 : arg1.IsWhole)
  (arg2 : Memref sig .tc .vmem S5x2x4x32x256 .fp8e4m3) (harg2 : arg2.IsWhole)
  (arg3 : Memref sig .tc .smem S1x1 .f32) (harg3 : arg3.IsWhole)
  (arg4 : Memref sig .tc .vmem S3x3x3x256x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S5x3x4x32x512 .bf16) (harg7 : arg7.IsWhole)
  (arg8 : Memref sig .tc .vmem S5x3x4x32x256 .fp8e4m3) (harg8 : arg8.IsWhole)
  (arg9 : Memref sig .tc .vmem S1x1 .f32) (harg9 : arg9.IsWhole)
  (arg10 : Memref sig .tc .vmem S5x3x128x256 .f32) (harg10 : arg10.IsWhole)
  (arg11 : Memref sig .tc .vmem S3x5x5x192x256 .fp8e4m3) (harg11 : arg11.IsWhole)
  (x0 : Vec F S5x3x4x32x256 .bf16) (x1 : Vec F S1x256 .f32) (x2 : Vec F S5x2x4x32x256 .fp8e4m3)
  (x3 : Vec F S1x1 .f32) (x4 : Vec F S3x3x3x256x512 .fp8e4m3) (x5 : Vec F S1x512 .f32) (x6 : Vec F S1x512 .f32)

/-- The scale row as the kernel loads it. -/
abbrev gRow : Vec F S1x256 .f32 :=
  View.readAt (Elt F) arg1.view (Rect.unit ![0, 0] S1x256.size inb_S1x256_S1x256_0_0).toLoadRect (harg1.unread x1)

/-- One frame of the input as the kernel loads it. -/
abbrev xBlk (b : Fin 5) (f : Fin 3) : Vec F S1x1x4x32x256 .bf16 :=
  View.readAt (Elt F) arg0.view (Rect.unit (s := S5x3x4x32x256) ![(b : ℕ), (f : ℕ), 0, 0, 0] S1x1x4x32x256.size (inb_new b f)).toLoadRect (harg0.unread x0)

/-- One cached frame as the kernel loads it. -/
abbrev cBlk (b : Fin 5) (f : Fin 2) : Vec F S1x1x4x32x256 .fp8e4m3 :=
  View.readAt (Elt F) arg2.view (Rect.unit (s := S5x2x4x32x256) ![(b : ℕ), (f : ℕ), 0, 0, 0] S1x1x4x32x256.size (inb_old b f)).toLoadRect (harg2.unread x2)

/-- One tap's weights as the kernel loads them. -/
abbrev wBlk (kt kh kw : Fin 3) : Vec F S1x1x1x256x512 .fp8e4m3 :=
  View.readAt (Elt F) arg4.view (Rect.unit (s := S3x3x3x256x512) ![(kt : ℕ), (kh : ℕ), (kw : ℕ), 0, 0] S1x1x1x256x512.size (inb_weight kt kh kw)).toLoadRect
    (harg4.unread x4)

/-- The weights' scales as the kernel loads them. -/
abbrev wsRow : Vec F S1x512 .f32 :=
  View.readAt (Elt F) arg5.view (Rect.unit ![0, 0] S1x512.size inb_S1x512_S1x512_0_0).toLoadRect (harg5.unread x5)

/-- The bias as the kernel loads it. -/
abbrev bRow : Vec F S1x512 .f32 :=
  View.readAt (Elt F) arg6.view (Rect.unit ![0, 0] S1x512.size inb_S1x512_S1x512_0_0).toLoadRect (harg6.unread x6)

/-- The stores of activations. -/
abbrev LH : List (View.Piece (Elt F) S5x3x128x256 .f32) := actPieces (gRow arg1 harg1 x1) (xBlk arg0 harg0 x0)

/-- The largest magnitude over 448. -/
abbrev vR : FVec F S1x1 .f32 := ratio (maxAll (gRow arg1 harg1 x1) (xBlk arg0 harg0 x0))

/-- One frame of activations as the kernel loads it back. -/
abbrev hBlk (b : Fin 5) (f : Fin 3) : Vec F S1x1x128x256 .f32 :=
  arg10.view.readCov (LH arg0 harg0 arg1 harg1 x0 x1)
    (Rect.unit (s := S5x3x128x256) ![(b : ℕ), (f : ℕ), 0, 0] S1x1x128x256.size (inb_act b f)).toLoadRect

/-- The stores of padded codes. -/
abbrev LP : List (View.Piece (Elt F) S3x5x5x192x256 .fp8e4m3) :=
  putAll (fun b f => oldRows (cBlk arg2 harg2 x2 b f))
    (fun b f => newRows (inv (vR arg0 harg0 arg1 harg1 x0 x1)) (hBlk arg0 harg0 arg1 harg1 arg10 x0 x1 b f))

/-- The stores of activations are the uniform list of them. -/
theorem acts_eq : kernelRun0_A.sl.HS0_15 c arg0 harg0 arg1 harg1 x0 x1 = LH arg0 harg0 arg1 harg1 x0 x1 := rfl

/-- The ratio the kernel computes is that of its running maximum. -/
theorem ratio_eq : kernelRun0_A.sl.r_20 c arg0 harg0 arg1 harg1 x0 x1 = vR arg0 harg0 arg1 harg1 x0 x1 := rfl

/-- The scale the kernel computes is that of its ratio. -/
theorem scale_eq : kernelRun0_A.sl.r_23 c arg0 harg0 arg1 harg1 x0 x1 = scale (vR arg0 harg0 arg1 harg1 x0 x1) := by
  have h : ∀ v : FVec F S1x1 .f32, k0_pay57 v (k0_pay53 v) (k0_pay54 v) k0_pay55 = scale v := fun _ => rfl
  rw [← ratio_eq c, ← h]; rfl

/-- So is the reciprocal. -/
theorem inv_eq : kernelRun0_A.sl.r_25 c arg0 harg0 arg1 harg1 x0 x1 = inv (vR arg0 harg0 arg1 harg1 x0 x1) := by
  have h : ∀ v : FVec F S1x1 .f32, k0_pay59 (k0_pay58 v (k0_pay53 v) (k0_pay54 v) k0_pay55) = inv v := fun _ => rfl
  rw [← ratio_eq c, ← h]; rfl

/-- The stores of padded codes the run makes. -/
theorem pads_eq : kernelRun0_A.sl.HS1_225 c arg0 harg0 arg1 harg1 arg2 harg2 arg10 x0 x1 x2
    = LP arg0 harg0 arg1 harg1 arg2 harg2 arg10 x0 x1 x2 := by
  unfold LP
  rw [← inv_eq c]
  rfl

/-- One window of the padded codes as the kernel loads it. -/
abbrev pBlk (kw : Fin 3) (f : Fin 5) (kh : Fin 3) : Vec F S1x5x1x128x256 .fp8e4m3 :=
  arg11.view.readCov (LP arg0 harg0 arg1 harg1 arg2 harg2 arg10 x0 x1 x2)
    (Rect.unit (s := S3x5x5x192x256) ![(kw : ℕ), 0, (f : ℕ), 32 * (kh : ℕ), 0] S1x5x1x128x256.size (inb_window kw f kh)).toLoadRect

/-- The scale of the cache as the kernel loads it. -/
abbrev csR : Elt F .f32 :=
  View.readAt (Elt F) arg3.view (Rect.unit (s := S1x1) ![0, 0] S1x1.size inb_S1x1_S1x1_0_0).toLoadRect (harg3.unread x3) (Shape.Idx.first (by decide))

/-- The stores of codes are the uniform list of them. -/
theorem codes_eq : (kernelRun0_A c arg0 harg0 arg1 harg1 arg2 harg2 arg3 harg3 arg4 harg4 arg5 harg5 arg6 harg6 arg7 harg7 arg8 harg8
    arg9 harg9 arg10 harg10 arg11 harg11 x0 x1 x2 x3 x4 x5 x6).2.1
    = codePieces (inv (vR arg0 harg0 arg1 harg1 x0 x1)) (hBlk arg0 harg0 arg1 harg1 arg10 x0 x1) := by
  rw [← inv_eq c]
  rfl

/-- The store of the scale. -/
theorem scales_eq : (kernelRun0_A c arg0 harg0 arg1 harg1 arg2 harg2 arg3 harg3 arg4 harg4 arg5 harg5 arg6 harg6 arg7 harg7 arg8 harg8
    arg9 harg9 arg10 harg10 arg11 harg11 x0 x1 x2 x3 x4 x5 x6).2.2.1
    = [⟨Rect.unit ![0, 0] S1x1.size inb_S1x1_S1x1_0_0, scale (vR arg0 harg0 arg1 harg1 x0 x1)⟩] := by
  rw [← scale_eq c]
  rfl

/-- The stores of output frames are the uniform list of them. -/
theorem outs_eq : (kernelRun0_A c arg0 harg0 arg1 harg1 arg2 harg2 arg3 harg3 arg4 harg4 arg5 harg5 arg6 harg6 arg7 harg7 arg8 harg8
    arg9 harg9 arg10 harg10 arg11 harg11 x0 x1 x2 x3 x4 x5 x6).1
    = outPieces (scale (vR arg0 harg0 arg1 harg1 x0 x1)) (csR arg3 harg3 x3)
        (pBlk arg0 harg0 arg1 harg1 arg2 harg2 arg10 arg11 x0 x1 x2) (wBlk arg4 harg4 x4) (wsRow arg5 harg5 x5) (bRow arg6 harg6 x6) := by
  unfold pBlk
  rw [← scale_eq c, ← pads_eq c]
  rfl

end Cert.KernelIdeal.Pieces

end
-- ==== Proof.Maths.lean ====
/-
  The mathematics both programs compute, on the extended reals: activations, the largest magnitude, the power-of-two scale,
  the codes, the padded frames.
-/
module

public import Idealize.ShloMosaic.PureOps.Ideal
public import Idealize.ShloMosaic.PureOps.Ideal.Laws

@[expose] public section

noncomputable section

namespace Cert.Maths

open Idealize.ShloMosaic

/-- Frames of images: video, frame, row, column, channel. -/
abbrev Frames := Fin 5 → Fin 3 → Fin 4 → Fin 32 → Fin 256 → EReal

/-- The magnitude. -/
abbrev mag (a : EReal) : EReal := FloatOps.absf (F := Ideal) (φ := .f32) a

/-- The root-mean-square normalised input, scaled per channel. -/
def rms (X : Frames) (g : Fin 256 → EReal) (b : Fin 5) (f : Fin 3) (i : Fin 4) (j : Fin 32) (l : Fin 256) : EReal :=
  X b f i j l * Ideal.rsqrt (Ideal.div (∑ k, X b f i j k * X b f i j k) (Ideal.ofBits .f32 0x43800000#32)
    + Ideal.ofBits .f32 0x358637BD#32) * g l

/-- The activation: the normalised input times its logistic. -/
def act (X : Frames) (g : Fin 256 → EReal) (b : Fin 5) (f : Fin 3) (i : Fin 4) (j : Fin 32) (l : Fin 256) : EReal :=
  rms X g b f i j l * Ideal.logistic (rms X g b f i j l)

/-- The largest magnitude of an activation. -/
def top (H : Frames) : EReal := ⨆ b, ⨆ f, ⨆ i, ⨆ j, ⨆ l, mag (H b f i j l)

/-- The largest magnitude is at most `c` when every magnitude is. -/
theorem top_le (H : Frames) (c : EReal) : top H ≤ c ↔ ∀ b f i j l, mag (H b f i j l) ≤ c := by
  simp only [top, iSup_le_iff]

/-- The largest magnitude over 448. -/
def ratio (a : EReal) : EReal := a * Ideal.ofBits .f32 0x3B124925#32

/-- The exponent of the scale: 0 for activations that are all 0, else that of the least power of two above the ratio. -/
def expo (a : EReal) : EReal :=
  if a = 0 then 0 else Ideal.liftRound Int.floor (Ideal.div (Ideal.log (ratio a)) (Ideal.log (Ideal.ofBits .f32 0x40000000#32)))
    + Ideal.ofBits .f32 0x3F800000#32

/-- The scale of the codes. -/
def scale (a : EReal) : EReal := Ideal.exp2 (expo a)

/-- Its reciprocal. -/
def inv (a : EReal) : EReal := Ideal.exp2 (0 - expo a)

/-- The codes: the activations over the scale, clipped to ±448. -/
def code (H : Frames) (b : Fin 5) (f : Fin 3) (i : Fin 4) (j : Fin 32) (l : Fin 256) : EReal :=
  min (Ideal.ofBits .f32 0x43E00000#32) (max (Ideal.ofBits .f32 0xC3E00000#32) (H b f i j l * inv (top H)))

/-- The codes of all frames: two cached frames, then the new ones. -/
def joined (C : Fin 5 → Fin 2 → Fin 4 → Fin 32 → Fin 256 → EReal) (N : Frames)
    (b f : Fin 5) (i : Fin 4) (j : Fin 32) (l : Fin 256) : EReal :=
  if h : (f : ℕ) < 2 then C b ⟨f, h⟩ i j l else N b ⟨(f : ℕ) - 2, by omega⟩ i j l

/-- The frames with a border of zeros one wide: rows 1…4 and columns 1…32 are the image. -/
def padded (D : Fin 5 → Fin 5 → Fin 4 → Fin 32 → Fin 256 → EReal) (b f : Fin 5) (i j : ℕ) (l : Fin 256) : EReal :=
  if h : (1 ≤ i ∧ i ≤ 4) ∧ 1 ≤ j ∧ j ≤ 32 then D b f ⟨i - 1, by omega⟩ ⟨j - 1, by omega⟩ l else 0

/-- The share of one tap in an output: the window of the padded frames times the tap's weights. -/
def tap (D : Fin 5 → Fin 5 → Fin 4 → Fin 32 → Fin 256 → EReal)
    (W : Fin 3 → Fin 3 → Fin 3 → Fin 256 → Fin 512 → EReal) (b : Fin 5) (f : Fin 3) (i : Fin 4) (j : Fin 32) (o : Fin 512)
    (kt kh kw : Fin 3) : EReal :=
  ∑ l, padded D b ⟨f + kt, by omega⟩ (i + kh) (j + kw) l * W kt kh kw l o

/-- The scale of one frame's codes. -/
def frameScale (cs s : EReal) (f : Fin 5) : EReal := if (f : ℕ) < 2 then cs else s

/-- The output: the convolution of the scaled codes, scaled by the weights' scales, plus the bias. -/
def out (D : Fin 5 → Fin 5 → Fin 4 → Fin 32 → Fin 256 → EReal) (cs s : EReal)
    (W : Fin 3 → Fin 3 → Fin 3 → Fin 256 → Fin 512 → EReal) (ws bias : Fin 512 → EReal)
    (b : Fin 5) (f : Fin 3) (i : Fin 4) (j : Fin 32) (o : Fin 512) : EReal :=
  (∑ kt : Fin 3, ∑ kh : Fin 3, ∑ kw : Fin 3, tap D W b f i j o kt kh kw * frameScale cs s ⟨f + kt, by omega⟩) * ws o + bias o

/-- A finite nonnegative factor goes into a sum of extended reals. -/
theorem sum_mul {ι : Type} (t : Finset ι) (u : ι → EReal) {s : EReal} (h0 : 0 ≤ s) (h1 : s ≠ ⊤) :
    (∑ i ∈ t, u i) * s = ∑ i ∈ t, u i * s := by
  classical
  induction t using Finset.induction_on with
  | empty => simp
  | insert a t ha ih =>
    rw [Finset.sum_insert ha, Finset.sum_insert ha, ← ih, mul_comm, EReal.left_distrib_of_nonneg_of_ne_top h0 h1, mul_comm s, mul_comm s]

/-- Scaling the padded frames scales the taps. -/
theorem tap_scaled (D : Fin 5 → Fin 5 → Fin 4 → Fin 32 → Fin 256 → EReal)
    (W : Fin 3 → Fin 3 → Fin 3 → Fin 256 → Fin 512 → EReal) (b : Fin 5) (f : Fin 3) (i : Fin 4) (j : Fin 32) (o : Fin 512)
    (kt kh kw : Fin 3) (s : Fin 5 → EReal) (h0 : ∀ f, 0 ≤ s f) (h1 : ∀ f, s f ≠ ⊤) :
    tap (fun b f i j l => D b f i j l * s f) W b f i j o kt kh kw = tap D W b f i j o kt kh kw * s ⟨f + kt, by omega⟩ := by
  unfold tap
  rw [sum_mul _ _ (h0 _) (h1 _)]
  refine Finset.sum_congr rfl fun l _ => ?_
  unfold padded
  split
  · exact mul_right_comm _ _ _
  · simp

end Cert.Maths

end
-- ==== Proof.Blocks.lean ====
/-
  The kernel's stages read at an index, on the extended reals.
-/
module

public import proofs.«01_k».proof.Proof.Words
public import proofs.«01_k».proof.Proof.Maths
public import Idealize.ShloMosaic.Lib.Pointwise

@[expose] public section

noncomputable section

namespace Cert.KernelIdeal.Blocks

open Idealize.ShloMosaic Cert.KernelIdeal Cert.KernelIdeal.Gen Cert

/-- The division by 256 is the multiplication by 2^-8. -/
theorem mean_eq (s : EReal) : Ideal.div s (Ideal.ofBits .f32 0x43800000#32) = s * Ideal.ofBits .f32 0x3B800000#32 := by
  have e1 : Ideal.ofBits .f32 0x43800000#32 = ((256 : ℝ) : EReal) := by simp [Ideal.ofBits, Ideal.ieee, -EReal.coe_mul]; norm_num
  have e2 : Ideal.ofBits .f32 0x3B800000#32 = ((256 : ℝ)⁻¹ : ℝ) := by simp [Ideal.ofBits, Ideal.ieee, -EReal.coe_mul]; norm_num
  rw [e1, e2, Ideal.div, if_neg (by norm_num), EReal.coe_inv]

/-- One frame's activations: row `r` of the matrix is the image's row `r / 32`, column `r % 32`. -/
theorem act_apply (X : Maths.Frames) (G : Fin 256 → EReal) (b : Fin 5) (f : Fin 3) (g : Vec Ideal S1x256 .f32)
    (x : Vec Ideal S1x1x4x32x256 .bf16) (hg : ∀ l, g (ix2 0 l) = G l) (hx : ∀ i j l, x (ix5 0 0 i j l) = X b f i j l)
    (r : Fin 128) (l : Fin 256) :
    Words.act g x (ix2 r l) = Maths.act X G b f ⟨r / 32, by omega⟩ ⟨r % 32, by omega⟩ l := by
  have e : Words.act g x (ix2 r l) = x (ix5 0 0 ⟨r / 32, by omega⟩ ⟨r % 32, by omega⟩ l)
      * Ideal.rsqrt ((∑ k, x (ix5 0 0 ⟨r / 32, by omega⟩ ⟨r % 32, by omega⟩ k) * x (ix5 0 0 ⟨r / 32, by omega⟩ ⟨r % 32, by omega⟩ k))
          * Ideal.ofBits .f32 0x3B800000#32 + Ideal.ofBits .f32 0x358637BD#32) * g (ix2 0 l)
      * Ideal.logistic (x (ix5 0 0 ⟨r / 32, by omega⟩ ⟨r % 32, by omega⟩ l)
      * Ideal.rsqrt ((∑ k, x (ix5 0 0 ⟨r / 32, by omega⟩ ⟨r % 32, by omega⟩ k) * x (ix5 0 0 ⟨r / 32, by omega⟩ ⟨r % 32, by omega⟩ k))
          * Ideal.ofBits .f32 0x3B800000#32 + Ideal.ofBits .f32 0x358637BD#32) * g (ix2 0 l)) := by
    pointwise [Words.act, k0_pay3, k0_pay2]
  rw [e]
  simp only [hx, hg, ← mean_eq]
  rfl

/-- The activations of one frame at an index. -/
theorem actBlock_apply (g : Vec Ideal S1x256 .f32) (x : Vec Ideal S1x1x4x32x256 .bf16) (a b : Fin 1) (r : Fin 128) (l : Fin 256) :
    Words.actBlock g x (ix4 a b r l) = Words.act g x (ix2 r l) := by
  pointwise [Words.actBlock]

/-- One step of the running maximum at an index. -/
theorem maxStep_apply (g : Vec Ideal S1x256 .f32) (m : Vec Ideal S8x256 .f32) (x : Vec Ideal S1x1x4x32x256 .bf16) (a : Fin 8) (b : Fin 256) :
    Words.maxStep g m x (ix2 a b) = max (m (ix2 a b)) (Finset.fold max (Ideal.ofBits .f32 0xFF800000#32)
      (fun k : Fin 16 => Maths.mag (Words.act g x (ix2 ⟨k * 8 + a, by omega⟩ b))) Finset.univ) := by
  pointwise [Words.maxStep]

/-- The largest entry over 448. -/
theorem ratio_apply (x : FVec Ideal S8x256 .f32) : Words.ratio x (ix2 0 0) =
    Finset.fold max (Ideal.ofBits .f32 0xFF800000#32)
        (fun l : Fin 256 => Finset.fold max (Ideal.ofBits .f32 0xFF800000#32) (fun a : Fin 8 => x (ix2 a l)) Finset.univ)
        Finset.univ * Ideal.ofBits .f32 0x3B124925#32 := by
  pointwise [Words.ratio]

/-- The codes of one frame at an index. -/
theorem codes_apply (i : FVec Ideal S1x1 .f32) (h : Vec Ideal S1x1x128x256 .f32) (r : Fin 128) (l : Fin 256) :
    Words.codes i h (ix2 r l)
      = min (Ideal.ofBits .f32 0x43E00000#32) (max (Ideal.ofBits .f32 0xC3E00000#32) (h (ix4 0 0 r l) * i (ix2 0 0))) := by
  pointwise [Words.codes]

/-- The widened new codes at an index. -/
theorem newRows_apply (i : FVec Ideal S1x1 .f32) (h : Vec Ideal S1x1x128x256 .f32) (r : Fin 128) (l : Fin 256) :
    Words.newRows i h (ix2 r l) = Words.codes i h (ix2 r l) := by
  pointwise [Words.newRows]

/-- The stored codes at an index. -/
theorem codesBlock_apply (k : FVec Ideal S1x1 .f32) (h : Vec Ideal S1x1x128x256 .f32) (a b : Fin 1) (i : Fin 4) (j : Fin 32) (l : Fin 256) :
    Words.codesBlock k h (ix5 a b i j l) = Words.codes k h (ix2 ⟨i * 32 + j, by omega⟩ l) := by
  pointwise [Words.codesBlock]

/-- The widened cached codes at an index. -/
theorem oldRows_apply (x : Vec Ideal S1x1x4x32x256 .fp8e4m3) (r : Fin 128) (l : Fin 256) :
    Words.oldRows x (ix2 r l) = x (ix5 0 0 ⟨r / 32, by omega⟩ ⟨r % 32, by omega⟩ l) := by
  pointwise [Words.oldRows]

/-- A padding row holds zeros. -/
theorem zeroRows_apply (a b c : Fin 1) (r : Fin 32) (l : Fin 256) : Words.zeroRows (F := Ideal) (ix5 a b c r l) = 0 := by
  have e : Words.zeroRows (F := Ideal) (ix5 a b c r l) = Ideal.ofBits .fp8e4m3 0#8 := by
    pointwise [Words.zeroRows, k0_pay60]
  rw [e]; exact Ideal.ofBits_zero .fp8e4m3

/-- The column number of each row, modulo the image's width. -/
theorem col_apply (r : Fin 128) (l : Fin 256) : k0_pay61 (ix2 r l) = BitVec.ofNat 32 (r % 32) := by
  have e : k0_pay61 (ix2 r l) = Scalar.select
          (IntOp.andi
            (IntOp.xori
              (IntOp.cmpi CmpIPredicate.slt
                (IntOp.remsi ArithUnit.vector (BitVec.ofNat 32 ↑r)
                  (Scalar.select (Scalar.cmpi CmpIPredicate.eq 32#32 0#32) 1#32 32#32))
                0#32)
              (Scalar.cmpi CmpIPredicate.slt (Scalar.select (Scalar.cmpi CmpIPredicate.eq 32#32 0#32) 1#32 32#32) 0#32))
            (IntOp.cmpi CmpIPredicate.ne
              (IntOp.remsi ArithUnit.vector (BitVec.ofNat 32 ↑r)
                (Scalar.select (Scalar.cmpi CmpIPredicate.eq 32#32 0#32) 1#32 32#32))
              0#32))
          (IntOp.addi
            (IntOp.remsi ArithUnit.vector (BitVec.ofNat 32 ↑r)
              (Scalar.select (Scalar.cmpi CmpIPredicate.eq 32#32 0#32) 1#32 32#32))
            (Scalar.select (Scalar.cmpi CmpIPredicate.eq 32#32 0#32) 1#32 32#32))
          (IntOp.remsi ArithUnit.vector (BitVec.ofNat 32 ↑r)
            (Scalar.select (Scalar.cmpi CmpIPredicate.eq 32#32 0#32) 1#32 32#32)) := by
    pointwise [k0_pay61]
  rw [e]
  clear e
  revert r
  decide +kernel

/-- A choice by the column that a row lies in. -/
theorem select_col (r : Fin 128) (k : Fin 32) (x y : EReal) :
    Scalar.select (IntOp.cmpi .eq (BitVec.ofNat 32 (r % 32)) (BitVec.ofNat 32 k)) x y = if (r : ℕ) % 32 = k then x else y := by
  have e : ∀ c k : Fin 32, IntOp.cmpi .eq (BitVec.ofNat 32 c) (BitVec.ofNat 32 k) = if (c : ℕ) = k then 1#1 else 0#1 := by decide +kernel
  have := e ⟨r % 32, by omega⟩ k
  simp only at this
  rw [this]
  by_cases h : (r : ℕ) % 32 = k
  · rw [if_pos h, if_pos h]; rfl
  · rw [if_neg h, if_neg h]; rfl

/-- The rows moved one position right. -/
theorem shifted0_apply (x : FVec Ideal S128x256 .f32) (a b c : Fin 1) (r : Fin 128) (l : Fin 256) :
    Words.shifted 0 x (ix5 a b c r l) = if (r : ℕ) % 32 = 0 then 0 else x (ix2 ⟨(r + 128 - 1) % 128, by omega⟩ l) := by
  have e : Words.shifted 0 x (ix5 a b c r l) = Scalar.select (IntOp.cmpi .eq (k0_pay61 (ix2 r l)) 0#32) 0
      (x (ix2 ⟨(r + 128 - 1) % 128, by omega⟩ l)) := by
    pointwise [Words.shifted]
  rw [e, col_apply]
  exact select_col r 0 _ _

/-- The unmoved rows at an index. -/
theorem shifted1_apply (x : FVec Ideal S128x256 .f32) (a b c : Fin 1) (r : Fin 128) (l : Fin 256) :
    Words.shifted 1 x (ix5 a b c r l) = x (ix2 r l) := by
  pointwise [Words.shifted]

/-- The rows moved one position left. -/
theorem shifted2_apply (x : FVec Ideal S128x256 .f32) (a b c : Fin 1) (r : Fin 128) (l : Fin 256) :
    Words.shifted 2 x (ix5 a b c r l) = if (r : ℕ) % 32 = 31 then 0 else x (ix2 ⟨(r + 128 - 127) % 128, by omega⟩ l) := by
  have e : Words.shifted 2 x (ix5 a b c r l) = Scalar.select (IntOp.cmpi .eq (k0_pay61 (ix2 r l)) 31#32) 0
      (x (ix2 ⟨(r + 128 - 127) % 128, by omega⟩ l)) := by
    pointwise [Words.shifted]
  rw [e, col_apply]
  exact select_col r 31 _ _

/-- Rows of one frame, shifted for the column offset `kw`, are the padded frame's columns `kw` further. -/
theorem shifted_apply (D : Fin 5 → Fin 5 → Fin 4 → Fin 32 → Fin 256 → EReal) (v f : Fin 5) (x : FVec Ideal S128x256 .f32)
    (hx : ∀ (r : Fin 128) l, x (ix2 r l) = D v f ⟨r / 32, by omega⟩ ⟨r % 32, by omega⟩ l) (kw : Fin 3)
    (a b c : Fin 1) (r : Fin 128) (l : Fin 256) :
    Words.shifted kw x (ix5 a b c r l) = Maths.padded D v f (r / 32 + 1) (r % 32 + kw) l := by
  unfold Maths.padded
  match kw with
  | 0 =>
    rw [shifted0_apply]
    by_cases h : (r : ℕ) % 32 = 0
    · rw [if_pos h, dif_neg (by simp; omega)]
    · rw [if_neg h, dif_pos (by simp; omega), hx]
      congr 1 <;> (apply Fin.ext; simp; omega)
  | 1 =>
    rw [shifted1_apply, dif_pos (by simp; omega), hx]
    congr 1
  | 2 =>
    rw [shifted2_apply]
    by_cases h : (r : ℕ) % 32 = 31
    · rw [if_pos h, dif_neg (by simp; omega)]
    · rw [if_neg h, dif_pos (by simp; omega), hx]
      congr 1 <;> (apply Fin.ext; simp; omega)

/-- The product of one tap at an index. -/
theorem tap_apply (p : Vec Ideal S1x5x1x128x256 .fp8e4m3) (w : Vec Ideal S1x1x1x256x512 .fp8e4m3) (r : Fin 640) (o : Fin 512) :
    Words.tap p w (ix2 r o) = ∑ l, p (ix5 0 ⟨r / 128, by omega⟩ 0 ⟨r % 128, by omega⟩ l) * w (ix5 0 0 0 l o) := by
  pointwise [Words.tap]

/-- The stored output frame at an index. -/
theorem finish_apply (x : FVec Ideal S640x512 .f32) (w v : Vec Ideal S1x512 .f32) (b : Fin 5) (f : Fin 1) (i : Fin 4) (j : Fin 32) (o : Fin 512) :
    Words.finish x w v (ix5 b f i j o) = x (ix2 ⟨b * 128 + i * 32 + j, by omega⟩ o) * w (ix2 0 o) + v (ix2 0 o) := by
  pointwise [Words.finish]

/-- The scaled sum of the new frames at an index. -/
theorem newPart_apply (s : FVec Ideal S1x1 .f32) (L : List (FVec Ideal S640x512 .f32)) (r : Fin 640) (o : Fin 512) :
    Words.newPart s L (ix2 r o) = Words.total L (ix2 r o) * s (ix2 0 0) := by
  pointwise [Words.newPart]

/-- The scaled sum of the cached frames at an index. -/
theorem oldPart_apply (s : Elt Ideal .f32) (L : List (FVec Ideal S640x512 .f32)) (r : Fin 640) (o : Fin 512) :
    Words.oldPart s L (ix2 r o) = Words.total L (ix2 r o) * s := by
  pointwise [Words.oldPart]

/-- A left-nested sum of matrices at an index is the sum of the entries. -/
theorem foldl_addf (L : List (FVec Ideal S640x512 .f32)) (a : FVec Ideal S640x512 .f32) (y : S640x512.Idx) :
    L.foldl addf a y = a y + (L.map (· y)).sum := by
  induction L generalizing a with
  | nil => simp
  | cons b L ih =>
    rw [List.foldl_cons, ih, List.map_cons, List.sum_cons, ← add_assoc]
    rfl

/-- A left-nested sum at an index is the sum there. -/
theorem total_apply (L : List (FVec Ideal S640x512 .f32)) (y : S640x512.Idx) : Words.total L y = (L.map (· y)).sum := by
  cases L with
  | nil => exact Ideal.ofBits_zero .f32
  | cons a L => exact foldl_addf L a y

end Cert.KernelIdeal.Blocks

end
-- ==== Proof.Exponent.lean ====
/-
  The power-of-two scale: the search over the exponent field finds the exponent the logarithm gives.
-/
module

public import proofs.«01_k».proof.Proof.Words
public import proofs.«01_k».proof.Proof.Maths
public import Idealize.ShloMosaic.Lib.Pointwise

@[expose] public section

noncomputable section

namespace Cert.Exponent

open Idealize.ShloMosaic Cert.KernelIdeal Cert.KernelIdeal.Gen

/-- The real number of the biased exponent `n` with fraction 0. -/
def pw (n : ℕ) : ℝ := if n = 0 then 0 else (2 : ℝ) ^ ((n : ℤ) - 127)

/-- The fields of the word `n <<< 23`. -/
theorem fields : ∀ n : Fin 256, ((BitVec.ofNat 32 n <<< 23).extractLsb' 31 1 == 1#1) = false
    ∧ ((BitVec.ofNat 32 n <<< 23).extractLsb' 23 8).toNat = n ∧ ((BitVec.ofNat 32 n <<< 23).extractLsb' 0 23).toNat = 0 := by
  decide +kernel

/-- A significand of 2^23 takes the exponent 23 lower. -/
theorem shifted_pow (n : ℕ) : (if false = true then (-1 : ℝ) else 1) * (((2 ^ 23 + 0 : ℕ) : ℝ)) * (2 : ℝ) ^ ((n : ℤ) - (2 ^ (8 - 1) - 1) - ((23 : ℕ) : ℤ))
    = (2 : ℝ) ^ ((n : ℤ) - 127) := by
  have e : ((n : ℤ) - 127) = 23 + ((n : ℤ) - (2 ^ (8 - 1) - 1) - ((23 : ℕ) : ℤ)) := by norm_num
  rw [e, zpow_add₀ (by norm_num)]
  norm_num

/-- The word `n <<< 23` denotes `pw n`. -/
theorem ofBits_pw (n : ℕ) (h : n < 255) : Ideal.ofBits .f32 (BitVec.ofNat 32 n <<< 23) = (pw n : EReal) := by
  obtain ⟨h1, h2, h3⟩ := fields ⟨n, by omega⟩
  simp only at h1 h2 h3
  show Ideal.ieee 8 23 (BitVec.ofNat 32 n <<< 23) = _
  unfold Ideal.ieee
  simp only [show 8 + 23 = 31 from rfl, h1, h2, h3]
  rw [if_neg (by omega)]
  unfold pw
  by_cases h0 : n = 0
  · simp [h0]
  · rw [if_neg h0, if_neg h0]
    exact congrArg Real.toEReal (shifted_pow n)

/-- The word of the all-ones exponent denotes infinity. -/
theorem ofBits_top : Ideal.ofBits .f32 (BitVec.ofNat 32 255 <<< 23) = ⊤ := by
  obtain ⟨h1, h2, h3⟩ := fields ⟨255, by omega⟩
  simp only at h1 h2 h3
  show Ideal.ieee 8 23 (BitVec.ofNat 32 255 <<< 23) = _
  unfold Ideal.ieee
  simp only [show 8 + 23 = 31 from rfl, h1, h2, h3]
  simp

/-- Comparing with such a word, below 2^126. -/
theorem ofBits_le {v : ℝ} (hv : v < (2 : ℝ) ^ (126 : ℤ)) (n : ℕ) (h : n < 256) :
    Ideal.ofBits .f32 (BitVec.ofNat 32 n <<< 23) ≤ (v : EReal) ↔ pw n ≤ v := by
  by_cases hn : n = 255
  · subst hn
    rw [ofBits_top]
    constructor
    · intro h; exact absurd h (not_le.mpr (EReal.coe_lt_top v))
    · intro h
      exfalso
      unfold pw at h
      rw [if_neg (by omega)] at h
      have : (2 : ℝ) ^ (126 : ℤ) ≤ (2 : ℝ) ^ (((255 : ℕ) : ℤ) - 127) := zpow_le_zpow_right₀ (by norm_num) (by norm_num)
      linarith
  · rw [ofBits_pw n (by omega), EReal.coe_le_coe_iff]

/-- The shift of a word written as a shift of a number. -/
theorem shl (n : ℕ) : IntOp.shli ArithUnit.vector (BitVec.ofNat 32 n) 23#32 = BitVec.ofNat 32 n <<< 23 := rfl

/-- One step of the search halves the interval the exponent lies in. -/
theorem step {v : FVec Ideal S1x1 .f32} {r : ℝ} (hv : v (ix2 0 0) = (r : EReal)) (hr : r < (2 : ℝ) ^ (126 : ℤ))
    {b : IVec S1x1 32} {n k : ℕ} (hb : b (ix2 0 0) = BitVec.ofNat 32 n) (hk : 0 < k) (hn : n + 2 * k ≤ 256)
    (hlo : pw n ≤ r) (hhi : r < pw (n + 2 * k)) :
    ∃ n', Words.searchStep v b (BitVec.ofNat 32 k) (ix2 0 0) = BitVec.ofNat 32 n' ∧ n' + k ≤ 256 ∧ pw n' ≤ r ∧ r < pw (n' + k) := by
  have e : Words.searchStep v b (BitVec.ofNat 32 k) (ix2 0 0)
      = if pw (n + k) ≤ r then BitVec.ofNat 32 (n + k) else BitVec.ofNat 32 n := by
    have : Words.searchStep v b (BitVec.ofNat 32 k) (ix2 0 0)
        = if v (ix2 0 0) < Ideal.ofBits .f32 (IntOp.shli ArithUnit.vector (IntOp.addi (b (ix2 0 0)) (BitVec.ofNat 32 k)) 23#32)
          then b (ix2 0 0) else IntOp.addi (b (ix2 0 0)) (BitVec.ofNat 32 k) := by
      pointwise [Words.searchStep]
    rw [this, hb, hv, show IntOp.addi (BitVec.ofNat 32 n) (BitVec.ofNat 32 k) = BitVec.ofNat 32 (n + k) from (BitVec.ofNat_add n k).symm,
      shl]
    have l := ofBits_le hr (n + k) (by omega)
    by_cases h : pw (n + k) ≤ r
    · rw [if_pos h, if_neg (not_lt.mpr (l.mpr h))]
    · rw [if_neg h, if_pos (not_le.mp (mt l.mp h))]
  by_cases h : pw (n + k) ≤ r
  · exact ⟨n + k, by rw [e, if_pos h], by omega, h, by rwa [show n + k + k = n + 2 * k by ring]⟩
  · exact ⟨n, by rw [e, if_neg h], by omega, hlo, not_le.mp h⟩

/-- The search finds the biased exponent. -/
theorem biased_spec {v : FVec Ideal S1x1 .f32} {r : ℝ} (hv : v (ix2 0 0) = (r : EReal)) (h0 : 0 ≤ r) (hr : r < (2 : ℝ) ^ (126 : ℤ)) :
    ∃ n, Words.biased v (ix2 0 0) = BitVec.ofNat 32 n ∧ n + 1 ≤ 256 ∧ pw n ≤ r ∧ r < pw (n + 1) := by
  have start : r < pw (0 + 2 * 128) := by
    unfold pw
    rw [if_neg (by omega)]
    refine lt_of_lt_of_le hr (zpow_le_zpow_right₀ (by norm_num) (by norm_num))
  obtain ⟨n1, e1, a1, b1, c1⟩ := step (b := broadcast S1x1 0#32) hv hr (n := 0) (k := 128) rfl (by omega) (by omega) (by simpa [pw] using h0) start
  obtain ⟨n2, e2, a2, b2, c2⟩ := step hv hr (k := 64) e1 (by omega) (by omega) b1 c1
  obtain ⟨n3, e3, a3, b3, c3⟩ := step hv hr (k := 32) e2 (by omega) (by omega) b2 c2
  obtain ⟨n4, e4, a4, b4, c4⟩ := step hv hr (k := 16) e3 (by omega) (by omega) b3 c3
  obtain ⟨n5, e5, a5, b5, c5⟩ := step hv hr (k := 8) e4 (by omega) (by omega) b4 c4
  obtain ⟨n6, e6, a6, b6, c6⟩ := step hv hr (k := 4) e5 (by omega) (by omega) b5 c5
  obtain ⟨n7, e7, a7, b7, c7⟩ := step hv hr (k := 2) e6 (by omega) (by omega) b6 c6
  obtain ⟨n8, e8, a8, b8, c8⟩ := step hv hr (k := 1) e7 (by omega) (by omega) b7 c7
  exact ⟨n8, e8, a8, b8, c8⟩

/-- The exponent's words: `127 + (n - 126) = n + 1` and `127 - (n - 126) = 253 - n`. -/
theorem words : ∀ n : Fin 253, n ≠ 0 →
    IntOp.addi 127#32 (Scalar.select (IntOp.cmpi .eq (BitVec.ofNat 32 n) 0#32) 0#32 (IntOp.subi (BitVec.ofNat 32 n) 126#32)) = BitVec.ofNat 32 (n + 1)
    ∧ IntOp.subi 127#32 (Scalar.select (IntOp.cmpi .eq (BitVec.ofNat 32 n) 0#32) 0#32 (IntOp.subi (BitVec.ofNat 32 n) 126#32)) = BitVec.ofNat 32 (253 - n) := by
  decide +kernel

/-- The exponent, from the biased exponent. -/
theorem expo_apply (v : FVec Ideal S1x1 .f32) : Words.expo v (ix2 0 0)
    = Scalar.select (IntOp.cmpi .eq (Words.biased v (ix2 0 0)) 0#32) 0#32 (IntOp.subi (Words.biased v (ix2 0 0)) 126#32) := by
  pointwise [Words.expo]

/-- The scale's word, from the exponent. -/
theorem scale_apply (v : FVec Ideal S1x1 .f32) : Words.scale v (ix2 0 0)
    = Ideal.ofBits .f32 (IntOp.shli ArithUnit.vector (IntOp.addi 127#32 (Words.expo v (ix2 0 0))) 23#32) := by
  pointwise [Words.scale]

/-- The reciprocal's word, from the exponent. -/
theorem inv_apply (v : FVec Ideal S1x1 .f32) : Words.inv v (ix2 0 0)
    = Ideal.ofBits .f32 (IntOp.shli ArithUnit.vector (IntOp.subi 127#32 (Words.expo v (ix2 0 0))) 23#32) := by
  pointwise [Words.inv]

/-- A found biased exponent 0 gives the scale 1. -/
theorem scale_zero {v : FVec Ideal S1x1 .f32} (h : Words.biased v (ix2 0 0) = BitVec.ofNat 32 0) :
    Words.scale v (ix2 0 0) = 1 ∧ Words.inv v (ix2 0 0) = 1 := by
  have e1 : (1 : EReal) = (pw 127 : EReal) := by unfold pw; norm_num
  rw [scale_apply, inv_apply, expo_apply, h, e1, ← ofBits_pw 127 (by omega)]
  exact ⟨rfl, rfl⟩

/-- A found biased exponent `n` gives the scale `2 ^ (n - 126)`. -/
theorem scale_pos {v : FVec Ideal S1x1 .f32} {n : ℕ} (h : Words.biased v (ix2 0 0) = BitVec.ofNat 32 n) (h1 : 1 ≤ n) (h2 : n ≤ 252) :
    Words.scale v (ix2 0 0) = (((2 : ℝ) ^ ((n : ℤ) - 126) : ℝ) : EReal)
    ∧ Words.inv v (ix2 0 0) = (((2 : ℝ) ^ (-((n : ℤ) - 126)) : ℝ) : EReal) := by
  obtain ⟨w1, w2⟩ := words ⟨n, by omega⟩ (by intro h; have := congrArg Fin.val h; simp at this; omega)
  simp only at w1 w2
  rw [scale_apply, inv_apply, expo_apply, h, w1, w2, shl, shl, ofBits_pw _ (by omega), ofBits_pw _ (by omega)]
  unfold pw
  rw [if_neg (by omega), if_neg (by omega)]
  refine ⟨congrArg _ (congrArg _ ?_), congrArg _ (congrArg _ ?_)⟩
  · push_cast; ring
  · rw [Nat.cast_sub (by omega)]; push_cast; ring

/-- `exp2` at an integer. -/
theorem exp2_int (k : ℤ) : Ideal.exp2 ((k : ℝ) : EReal) = (((2 : ℝ) ^ k : ℝ) : EReal) := by
  show ((Real.rpow 2 (k : ℝ) : ℝ) : EReal) = _
  rw [← Real.rpow_intCast]; rfl

/-- The literal 2. -/
theorem lit_two : Ideal.ofBits .f32 0x40000000#32 = ((2 : ℝ) : EReal) := by
  have := ofBits_pw 128 (by omega)
  rw [show pw 128 = 2 by unfold pw; norm_num] at this
  exact this

/-- The literal 1. -/
theorem lit_one : Ideal.ofBits .f32 0x3F800000#32 = ((1 : ℝ) : EReal) := by
  have := ofBits_pw 127 (by omega)
  rw [show pw 127 = 1 by unfold pw; norm_num] at this
  exact this

/-- The logarithm's exponent, of a number between two neighbouring powers. -/
theorem expo_real {A : EReal} (hA : A ≠ 0) {r : ℝ} (hr : Maths.ratio A = (r : EReal)) {k : ℤ} (h1 : (2 : ℝ) ^ k ≤ r) (h2 : r < (2 : ℝ) ^ (k + 1)) :
    Maths.expo A = (((k + 1 : ℤ) : ℝ) : EReal) := by
  have r0 : 0 < r := lt_of_lt_of_le (by positivity) h1
  have l2 : 0 < Real.log 2 := Real.log_pos (by norm_num)
  unfold Maths.expo
  rw [if_neg hA, hr, lit_two, lit_one]
  have e1 : Ideal.log ((r : ℝ) : EReal) = (Real.log r : EReal) := by
    show (if r ≤ 0 then (⊥ : EReal) else _) = _
    rw [if_neg (not_le.mpr r0)]
  have e2 : Ideal.log ((2 : ℝ) : EReal) = (Real.log 2 : EReal) := by
    show (if (2 : ℝ) ≤ 0 then (⊥ : EReal) else _) = _
    rw [if_neg (by norm_num)]
  have e3 : Ideal.div (Real.log r : EReal) (Real.log 2 : EReal) = ((Real.log r / Real.log 2 : ℝ) : EReal) := by
    unfold Ideal.div
    rw [if_neg (by exact_mod_cast l2.ne'), div_eq_mul_inv, EReal.coe_mul, EReal.coe_inv]
  have fl : Int.floor (Real.log r / Real.log 2) = k := by
    rw [Int.floor_eq_iff, le_div_iff₀ l2, div_lt_iff₀ l2]
    constructor
    · rw [← Real.log_zpow]; exact Real.log_le_log (by positivity) h1
    · have := Real.log_lt_log r0 h2
      rw [Real.log_zpow] at this
      push_cast at this; exact this
  rw [e1, e2, e3]
  show ((((Int.floor (Real.log r / Real.log 2) : ℤ) : ℝ)) : EReal) + _ = _
  rw [fl, ← EReal.coe_add]; push_cast; rfl

/-- In range: the largest magnitude is 0, or its ratio is a normal number whose power of two has a normal reciprocal. -/
def InRange (A : EReal) : Prop :=
  A = 0 ∨ (Ideal.ofBits .f32 0x00800000#32 ≤ Maths.ratio A ∧ Maths.ratio A < Ideal.ofBits .f32 0x7E800000#32)

/-- The lower bound of the range is `2 ^ -126`. -/
theorem lit_lo : Ideal.ofBits .f32 0x00800000#32 = (((2 : ℝ) ^ (-126 : ℤ) : ℝ) : EReal) := by
  have := ofBits_pw 1 (by omega)
  rw [show pw 1 = (2 : ℝ) ^ (-126 : ℤ) by unfold pw; rw [if_neg (by omega)]; norm_num] at this
  exact this

/-- The upper bound of the range is `2 ^ 126`. -/
theorem lit_hi : Ideal.ofBits .f32 0x7E800000#32 = (((2 : ℝ) ^ (126 : ℤ) : ℝ) : EReal) := by
  have := ofBits_pw 253 (by omega)
  rw [show pw 253 = (2 : ℝ) ^ (126 : ℤ) by unfold pw; rw [if_neg (by omega)]; norm_num] at this
  exact this

/-- The scale found by the search is the one the logarithm gives, likewise its reciprocal, and it is finite and positive. -/
theorem scale_spec {A : EReal} (hA : InRange A) {v : FVec Ideal S1x1 .f32} (hv : v (ix2 0 0) = Maths.ratio A) :
    Words.scale v (ix2 0 0) = Maths.scale A ∧ Words.inv v (ix2 0 0) = Maths.inv A ∧ 0 ≤ Maths.scale A ∧ Maths.scale A ≠ ⊤ := by
  by_cases h0 : A = 0
  · have hz : v (ix2 0 0) = ((0 : ℝ) : EReal) := by rw [hv, h0]; unfold Maths.ratio; simp
    obtain ⟨n, e, -, a, -⟩ := biased_spec hz le_rfl (by positivity)
    have n0 : n = 0 := by
      by_contra hn
      unfold pw at a
      rw [if_neg hn] at a
      exact absurd a (not_le.mpr (by positivity))
    subst n0
    obtain ⟨s, i⟩ := scale_zero e
    have x0 : Maths.expo A = 0 := by unfold Maths.expo; rw [if_pos h0]
    have x1 : Ideal.exp2 0 = 1 := by
      have := exp2_int 0
      simpa using this
    have y1 : Maths.scale A = 1 := by unfold Maths.scale; rw [x0, x1]
    refine ⟨by rw [s, y1], ?_, by rw [y1]; exact zero_le_one, by rw [y1]; exact EReal.coe_ne_top 1⟩
    rw [i]; unfold Maths.inv; rw [x0, sub_zero, x1]
  · obtain hA | ⟨lo, hi⟩ := hA
    · exact absurd hA h0
    rw [lit_lo] at lo
    rw [lit_hi] at hi
    obtain ⟨r, hr⟩ : ∃ r : ℝ, Maths.ratio A = (r : EReal) :=
      ⟨(Maths.ratio A).toReal, (EReal.coe_toReal (ne_top_of_lt hi) (ne_bot_of_gt (lt_of_lt_of_le (EReal.bot_lt_coe _) lo))).symm⟩
    rw [hr, EReal.coe_le_coe_iff] at lo
    rw [hr, EReal.coe_lt_coe_iff] at hi
    obtain ⟨n, e, n256, a, b⟩ := biased_spec (hv.trans hr) (le_trans (by positivity) lo) hi
    have n1 : 1 ≤ n := by
      by_contra hn
      have : n = 0 := by omega
      subst this
      unfold pw at b
      rw [if_neg (by omega)] at b
      norm_num at b lo
      linarith
    have n2 : n ≤ 252 := by
      by_contra hn
      unfold pw at a
      rw [if_neg (by omega)] at a
      have : (2 : ℝ) ^ (126 : ℤ) ≤ (2 : ℝ) ^ ((n : ℤ) - 127) := zpow_le_zpow_right₀ (by norm_num) (by omega)
      linarith
    obtain ⟨s, i⟩ := scale_pos e n1 n2
    unfold pw at a b
    rw [if_neg (by omega)] at a b
    have x := expo_real h0 hr (k := (n : ℤ) - 127) a (by convert b using 2; push_cast; ring)
    rw [show (n : ℤ) - 127 + 1 = (n : ℤ) - 126 by ring] at x
    have y : Maths.scale A = (((2 : ℝ) ^ ((n : ℤ) - 126) : ℝ) : EReal) := by unfold Maths.scale; rw [x, exp2_int]
    refine ⟨by rw [s, y], ?_, ?_, by rw [y]; exact EReal.coe_ne_top _⟩
    · rw [i]; unfold Maths.inv; rw [x, zero_sub, ← EReal.coe_neg, ← Int.cast_neg, exp2_int]
    · rw [y]; exact EReal.coe_nonneg.mpr (by positivity)

end Cert.Exponent

end
-- ==== Proof.Scratch.lean ====
/-
  What the kernel's loads read, on the extended reals: the frames it loads, the activations and the padded codes it stores in
  its scratches and loads back, and the three results' stores.
-/
module

public import proofs.«01_k».proof.Proof.Pieces
public import proofs.«01_k».proof.Proof.Blocks
public import proofs.«01_k».proof.Proof.Exponent
public import Idealize.ShloMosaic.Lib.Pipeline.ValueKit.Tiles

@[expose] public section

noncomputable section

namespace Cert.KernelIdeal.Scratch

open Idealize.ShloMosaic Cert.KernelIdeal Cert.KernelIdeal.Gen Cert.KernelIdeal.Words Cert.KernelIdeal.Pieces Cert

variable (c : Dev nD)
  (arg0 : Memref sig .tc .vmem S5x3x4x32x256 .bf16) (harg0 : arg0.IsWhole)
  (arg1 : Memref sig .tc .vmem S1x256 .f32) (harg1 : arg1.IsWhole)
  (arg2 : Memref sig .tc .vmem S5x2x4x32x256 .fp8e4m3) (harg2 : arg2.IsWhole)
  (arg3 : Memref sig .tc .smem S1x1 .f32) (harg3 : arg3.IsWhole)
  (arg4 : Memref sig .tc .vmem S3x3x3x256x512 .fp8e4m3) (harg4 : arg4.IsWhole)
  (arg5 : Memref sig .tc .vmem S1x512 .f32) (harg5 : arg5.IsWhole)
  (arg6 : Memref sig .tc .vmem S1x512 .f32) (harg6 : arg6.IsWhole)
  (arg10 : Memref sig .tc .vmem S5x3x128x256 .f32)
  (arg11 : Memref sig .tc .vmem S3x5x5x192x256 .fp8e4m3)
  (x0 : Vec Ideal S5x3x4x32x256 .bf16) (x1 : Vec Ideal S1x256 .f32) (x2 : Vec Ideal S5x2x4x32x256 .fp8e4m3)
  (x3 : Vec Ideal S1x1 .f32) (x4 : Vec Ideal S3x3x3x256x512 .fp8e4m3) (x5 : Vec Ideal S1x512 .f32) (x6 : Vec Ideal S1x512 .f32)

/-! ## The arguments as functions of their coordinates -/

/-- The input frames. -/
abbrev inX : Maths.Frames := fun b f i j l => x0 (ix5 b f i j l)

/-- The channels' scales. -/
abbrev inG : Fin 256 → EReal := fun l => x1 (ix2 0 l)

/-- The cached frames. -/
abbrev inC : Fin 5 → Fin 2 → Fin 4 → Fin 32 → Fin 256 → EReal := fun b f i j l => x2 (ix5 b f i j l)

/-- The weights. -/
abbrev inW : Fin 3 → Fin 3 → Fin 3 → Fin 256 → Fin 512 → EReal := fun kt kh kw l o => x4 (ix5 kt kh kw l o)

/-- A row of 512. -/
abbrev row512 (x : Vec Ideal S1x512 .f32) : Fin 512 → EReal := fun o => x (ix2 0 o)

/-- The activations. -/
abbrev inH : Maths.Frames := Maths.act (inX x0) (inG x1)

/-- The codes of all frames. -/
abbrev inD : Fin 5 → Fin 5 → Fin 4 → Fin 32 → Fin 256 → EReal := Maths.joined (inC x2) (Maths.code (inH x0 x1))

/-! ## The blocks loaded -/

/-- The loaded row of gamma. -/
theorem gRow_apply (l : Fin 256) : gRow arg1 harg1 x1 (ix2 0 l) = inG x1 l := by
  unfold gRow
  rw [View.readAt_eq_ld, harg1.read_unread]
  exact View.ld_unit_apply_of _ _ _ _ _ _ fun a => by fin_cases a <;> simp

/-- The loaded row of the weights' scales. -/
theorem wsRow_apply (o : Fin 512) : wsRow arg5 harg5 x5 (ix2 0 o) = row512 x5 o := by
  unfold wsRow
  rw [View.readAt_eq_ld, harg5.read_unread]
  exact View.ld_unit_apply_of _ _ _ _ _ _ fun a => by fin_cases a <;> simp

/-- The loaded row of the bias. -/
theorem bRow_apply (o : Fin 512) : bRow arg6 harg6 x6 (ix2 0 o) = row512 x6 o := by
  unfold bRow
  rw [View.readAt_eq_ld, harg6.read_unread]
  exact View.ld_unit_apply_of _ _ _ _ _ _ fun a => by fin_cases a <;> simp

/-- The loaded scale of the cache. -/
theorem csR_apply : csR arg3 harg3 x3 = x3 (ix2 0 0) := by
  unfold csR
  rw [View.readAt_eq_ld, harg3.read_unread]
  exact View.ld_unit_apply_of _ _ _ _ _ _ fun a => by fin_cases a <;> rfl

/-- The loaded input frame at an index. -/
theorem xBlk_apply (b : Fin 5) (f : Fin 3) (i : Fin 4) (j : Fin 32) (l : Fin 256) :
    xBlk arg0 harg0 x0 b f (ix5 0 0 i j l) = inX x0 b f i j l := by
  unfold xBlk
  rw [View.readAt_eq_ld, harg0.read_unread]
  exact View.ld_unit_apply_of _ _ _ _ _ _ fun a => by fin_cases a <;> simp

/-- The loaded cached frame at an index. -/
theorem cBlk_apply (b : Fin 5) (f : Fin 2) (i : Fin 4) (j : Fin 32) (l : Fin 256) :
    cBlk arg2 harg2 x2 b f (ix5 0 0 i j l) = inC x2 b f i j l := by
  unfold cBlk
  rw [View.readAt_eq_ld, harg2.read_unread]
  exact View.ld_unit_apply_of _ _ _ _ _ _ fun a => by fin_cases a <;> simp

/-- The loaded weights of a tap at an index. -/
theorem wBlk_apply (kt kh kw : Fin 3) (l : Fin 256) (o : Fin 512) :
    wBlk arg4 harg4 x4 kt kh kw (ix5 0 0 0 l o) = inW x4 kt kh kw l o := by
  unfold wBlk
  rw [View.readAt_eq_ld, harg4.read_unread]
  exact View.ld_unit_apply_of _ _ _ _ _ _ fun a => by fin_cases a <;> simp

/-! ## The activations -/

/-- The activations of a loaded frame. -/
theorem act_block (b : Fin 5) (f : Fin 3) (r : Fin 128) (l : Fin 256) :
    act (gRow arg1 harg1 x1) (xBlk arg0 harg0 x0 b f) (ix2 r l) = inH x0 x1 b f ⟨r / 32, by omega⟩ ⟨r % 32, by omega⟩ l :=
  Blocks.act_apply _ _ b f _ _ (gRow_apply arg1 harg1 x1) (xBlk_apply arg0 harg0 x0 b f) r l

/-- An index of one stored frame, in the scratch. -/
theorem emb_act (b : Fin 5) (f : Fin 3) (u v : Fin 1) (r : Fin 128) (l : Fin 256) :
    (Rect.unit (s := S5x3x128x256) ![(b : ℕ), (f : ℕ), 0, 0] S1x1x128x256.size (inb_act b f)).idx (ix4 u v r l) = ix4 b f r l := by
  funext a; apply Fin.ext; rw [Rect.idx_unit_val]; fin_cases a <;> simp

/-- Every frame is visited. -/
theorem mem_visits (b : Fin 5) (f : Fin 3) : (b, f) ∈ visits := by revert b f; decide

/-- The activations' scratch holds the activations. -/
theorem acts_canon (b : Fin 5) (f : Fin 3) (r : Fin 128) (l : Fin 256) :
    View.canon (LH arg0 harg0 arg1 harg1 x0 x1) (ix4 b f r l) = inH x0 x1 b f ⟨r / 32, by omega⟩ ⟨r % 32, by omega⟩ l := by
  let K : Fin 5 → Fin 3 → Fin 128 → Fin 256 → EReal := fun b f r l => inH x0 x1 b f ⟨r / 32, by omega⟩ ⟨r % 32, by omega⟩ l
  refine View.canon_apply_of_pieces (Val := Elt Ideal) (e := .f32) (fun y => K (y 0) (y 1) (y 2) (y 3)) _ ?_ (ix4 b f r l) ?_
  · intro p hp x
    simp only [LH, actPieces, List.mem_map, List.mem_reverse] at hp
    obtain ⟨⟨b, f⟩, -, rfl⟩ := hp
    obtain ⟨u, v, r, l, rfl⟩ : ∃ (u v : Fin 1) (r : Fin 128) (l : Fin 256), x = ix4 u v r l := ⟨_, _, _, _, eq_ix4 x⟩
    have e := emb_act b f u v r l
    show actBlock (F := Ideal) _ _ (ix4 u v r l) = (fun y : S5x3x128x256.Idx => K (y 0) (y 1) (y 2) (y 3)) ((Rect.unit (s := S5x3x128x256) ![(b : ℕ), (f : ℕ), 0, 0] S1x1x128x256.size (inb_act b f)).idx (ix4 u v r l))
    rw [e, Blocks.actBlock_apply, act_block]
    rfl
  · refine ⟨_, List.mem_map.mpr ⟨(b, f), List.mem_reverse.mpr (mem_visits b f), rfl⟩, ?_⟩
    rw [← emb_act b f 0 0 r l]
    exact LoadRect.idx_mem _ _

/-- The activations read back from the scratch. -/
theorem hBlk_apply (b : Fin 5) (f : Fin 3) (r : Fin 128) (l : Fin 256) :
    hBlk arg0 harg0 arg1 harg1 arg10 x0 x1 b f (ix4 0 0 r l) = inH x0 x1 b f ⟨r / 32, by omega⟩ ⟨r % 32, by omega⟩ l := by
  rw [← acts_canon arg0 harg0 arg1 harg1 x0 x1, ← emb_act b f 0 0 r l]
  unfold hBlk
  rw [View.readCov_eq_canon_ld]
  intro y
  obtain ⟨b, f, r, l, rfl⟩ : ∃ (b : Fin 5) (f : Fin 3) (r : Fin 128) (l : Fin 256), y = ix4 b f r l := ⟨_, _, _, _, eq_ix4 y⟩
  refine ⟨_, List.mem_map.mpr ⟨(b, f), List.mem_reverse.mpr (mem_visits b f), rfl⟩, ?_⟩
  have := emb_act b f 0 0 r l
  rw [← this]
  exact LoadRect.idx_mem _ _

/-! ## The largest magnitude -/

/-- The literal minus infinity. -/
theorem lit_bot : Ideal.ofBits .f32 0xFF800000#32 = ⊥ := by simp [Ideal.ofBits, Ideal.ieee]

/-- The running maximum is at most `c` when its start and all magnitudes seen are. -/
theorem foldl_le (g : Vec Ideal S1x256 .f32) (xb : Fin 5 → Fin 3 → Vec Ideal S1x1x4x32x256 .bf16) (a : Fin 8) (l : Fin 256) (c : EReal)
    (L : List (Fin 5 × Fin 3)) (m : FVec Ideal S8x256 .f32) :
    L.foldl (fun m p => maxStep g m (xb p.1 p.2)) m (ix2 a l) ≤ c
      ↔ m (ix2 a l) ≤ c ∧ ∀ p ∈ L, ∀ k : Fin 16, Maths.mag (act g (xb p.1 p.2) (ix2 ⟨k * 8 + a, by omega⟩ l)) ≤ c := by
  induction L generalizing m with
  | nil => simp
  | cons q L ih =>
    rw [List.foldl_cons, ih, Blocks.maxStep_apply, max_le_iff, Finset.fold_max_le, lit_bot, List.forall_mem_cons]
    simp only [bot_le, true_and, Finset.mem_univ, forall_true_left, and_assoc]

/-- The maximum after all frames is at most `c` when 0 and all magnitudes are. -/
theorem maxAll_le (g : Vec Ideal S1x256 .f32) (xb : Fin 5 → Fin 3 → Vec Ideal S1x1x4x32x256 .bf16) (a : Fin 8) (l : Fin 256) (c : EReal) :
    maxAll g xb (ix2 a l) ≤ c ↔ 0 ≤ c ∧ ∀ b f, ∀ k : Fin 16, Maths.mag (act g (xb b f) (ix2 ⟨k * 8 + a, by omega⟩ l)) ≤ c := by
  unfold maxAll
  rw [foldl_le]
  have e : broadcast (α := Ideal .f32) S8x256 (Scalar.ofBits .f32 0x00000000#32) (ix2 a l) = (0 : EReal) := Ideal.ofBits_zero .f32
  rw [e]
  exact and_congr_right fun _ => ⟨fun h b f => h (b, f) (mem_visits b f), fun h p _ => h p.1 p.2⟩

/-- A magnitude is not negative. -/
theorem mag_nonneg (a : EReal) : 0 ≤ Maths.mag a := by
  show 0 ≤ max a (-a)
  by_cases h : 0 ≤ a
  · exact le_max_of_le_left h
  · exact le_max_of_le_right (EReal.neg_nonneg.mpr (not_le.mp h).le)

/-- A maximum of maxima is at most `c` when every element is. -/
theorem fold_le {ι κ : Type} [Fintype ι] [Fintype κ] (u : ι → κ → EReal) (c : EReal) :
    Finset.fold max (⊥ : EReal) (fun l => Finset.fold max (⊥ : EReal) (u l) Finset.univ) Finset.univ ≤ c ↔ ∀ l a, u l a ≤ c := by
  simp [Finset.fold_max_le]

/-- The kernel's largest magnitude is the one of the mathematics. -/
theorem top_eq : Finset.fold max (⊥ : EReal) (fun l : Fin 256 => Finset.fold max (⊥ : EReal) (fun a : Fin 8 =>
      maxAll (gRow arg1 harg1 x1) (xBlk arg0 harg0 x0) (ix2 a l)) Finset.univ) Finset.univ = Maths.top (inH x0 x1) := by
  refine eq_of_forall_ge_iff fun c => ?_
  rw [fold_le, Maths.top_le]
  constructor
  · intro h b f i j l
    have := ((maxAll_le _ _ _ _ _).mp (h l ⟨(i * 32 + j) % 8, by omega⟩)).2 b f ⟨(i * 32 + j) / 8, by omega⟩
    rw [act_block] at this
    convert this using 3 <;> (apply Fin.ext; simp only; omega)
  · intro h l a
    refine (maxAll_le _ _ _ _ _).mpr ⟨le_trans (mag_nonneg _) (h 0 0 0 0 0), fun b f k => ?_⟩
    rw [act_block]; exact h _ _ _ _ _

/-- The kernel's largest magnitude over 448 is the one of the mathematics. -/
theorem vR_apply : vR arg0 harg0 arg1 harg1 x0 x1 (ix2 0 0) = Maths.ratio (Maths.top (inH x0 x1)) := by
  unfold vR
  rw [Blocks.ratio_apply, lit_bot, top_eq]
  rfl

/-! ## The padded codes -/

variable (hA : Exponent.InRange (Maths.top (inH x0 x1)))

include hA in
/-- The codes of a frame read back from the scratch. -/
theorem codes_block (b : Fin 5) (f : Fin 3) (r : Fin 128) (l : Fin 256) :
    codes (inv (vR arg0 harg0 arg1 harg1 x0 x1)) (hBlk arg0 harg0 arg1 harg1 arg10 x0 x1 b f) (ix2 r l)
      = Maths.code (inH x0 x1) b f ⟨r / 32, by omega⟩ ⟨r % 32, by omega⟩ l := by
  rw [Blocks.codes_apply, hBlk_apply, (Exponent.scale_spec hA (vR_apply arg0 harg0 arg1 harg1 x0 x1)).2.1]
  rfl

/-- The rows of one frame, cached or new. -/
def rows (old : Fin 5 → Fin 2 → FVec Ideal S128x256 .f32) (new : Fin 5 → Fin 3 → FVec Ideal S128x256 .f32) (b f : Fin 5) :
    FVec Ideal S128x256 .f32 :=
  if h : (f : ℕ) < 2 then old b ⟨f, h⟩ else new b ⟨(f : ℕ) - 2, by omega⟩

/-- The stores that put one frame. -/
theorem mem_put (p : View.Piece (Elt Ideal) S3x5x5x192x256 .fp8e4m3) (b f : Fin 5) (a : FVec Ideal S128x256 .f32) :
    p ∈ put b f a ↔ ∃ kw, p ∈ putOne kw b f a := by
  simp only [put, List.mem_append]
  constructor
  · rintro ((h | h) | h) <;> exact ⟨_, h⟩
  · rintro ⟨kw, h⟩
    match kw, h with
    | 0, h => exact Or.inr h
    | 1, h => exact Or.inl (Or.inr h)
    | 2, h => exact Or.inl (Or.inl h)

/-- The stores that put all frames. -/
theorem mem_putVideo (p : View.Piece (Elt Ideal) S3x5x5x192x256 .fp8e4m3) (old : Fin 5 → Fin 2 → FVec Ideal S128x256 .f32)
    (new : Fin 5 → Fin 3 → FVec Ideal S128x256 .f32) (b : Fin 5) :
    p ∈ putVideo old new b ↔ ∃ f, p ∈ put b f (rows old new b f) := by
  simp only [putVideo, List.mem_append]
  constructor
  · rintro ((((h | h) | h) | h) | h)
    · exact ⟨4, h⟩
    · exact ⟨3, h⟩
    · exact ⟨2, h⟩
    · exact ⟨1, h⟩
    · exact ⟨0, h⟩
  · rintro ⟨f, h⟩
    match f, h with
    | 0, h => exact Or.inr h
    | 1, h => exact Or.inl (Or.inr h)
    | 2, h => exact Or.inl (Or.inl (Or.inr h))
    | 3, h => exact Or.inl (Or.inl (Or.inl (Or.inr h)))
    | 4, h => exact Or.inl (Or.inl (Or.inl (Or.inl h)))

/-- A store of padded codes is one of one frame for one column offset. -/
theorem mem_putAll (p : View.Piece (Elt Ideal) S3x5x5x192x256 .fp8e4m3) (old : Fin 5 → Fin 2 → FVec Ideal S128x256 .f32)
    (new : Fin 5 → Fin 3 → FVec Ideal S128x256 .f32) :
    p ∈ putAll old new ↔ ∃ b f kw, p ∈ putOne kw b f (rows old new b f) := by
  simp only [← mem_put, ← mem_putVideo]
  simp only [putAll, List.mem_append]
  constructor
  · rintro ((((h | h) | h) | h) | h) <;> exact ⟨_, h⟩
  · rintro ⟨b, h⟩
    match b, h with
    | 0, h => exact Or.inr h
    | 1, h => exact Or.inl (Or.inr h)
    | 2, h => exact Or.inl (Or.inl (Or.inr h))
    | 3, h => exact Or.inl (Or.inl (Or.inl (Or.inr h)))
    | 4, h => exact Or.inl (Or.inl (Or.inl (Or.inl h)))

/-- Where a frame's rows lie in the scratch. -/
theorem emb_rows (kw : Fin 3) (b f : Fin 5) (u v w : Fin 1) (r : Fin 128) (l : Fin 256) :
    (Rect.unit (s := S3x5x5x192x256) ![(kw : ℕ), (b : ℕ), (f : ℕ), 32, 0] S1x1x1x128x256.size (inb_rows kw b f)).idx (ix5 u v w r l)
      = ix5 kw b f ⟨32 + r, by omega⟩ l := by
  funext a; apply Fin.ext; rw [Rect.idx_unit_val]; fin_cases a <;> simp

/-- Where a frame's upper padding row lies in the scratch. -/
theorem emb_top (kw : Fin 3) (b f : Fin 5) (u v w : Fin 1) (r : Fin 32) (l : Fin 256) :
    (Rect.unit (s := S3x5x5x192x256) ![(kw : ℕ), (b : ℕ), (f : ℕ), 0, 0] S1x1x1x32x256.size (inb_top kw b f)).idx (ix5 u v w r l)
      = ix5 kw b f ⟨r, by omega⟩ l := by
  funext a; apply Fin.ext; rw [Rect.idx_unit_val]; fin_cases a <;> simp

/-- Where a frame's lower padding row lies in the scratch. -/
theorem emb_bottom (kw : Fin 3) (b f : Fin 5) (u v w : Fin 1) (r : Fin 32) (l : Fin 256) :
    (Rect.unit (s := S3x5x5x192x256) ![(kw : ℕ), (b : ℕ), (f : ℕ), 160, 0] S1x1x1x32x256.size (inb_bottom kw b f)).idx (ix5 u v w r l)
      = ix5 kw b f ⟨160 + r, by omega⟩ l := by
  funext a; apply Fin.ext; rw [Rect.idx_unit_val]; fin_cases a <;> simp

/-- Every index of the scratch is in a store. -/
theorem putAll_cover (old : Fin 5 → Fin 2 → FVec Ideal S128x256 .f32) (new : Fin 5 → Fin 3 → FVec Ideal S128x256 .f32)
    (y : S3x5x5x192x256.Idx) : ∃ p ∈ putAll old new, y ∈ p.1.set := by
  obtain ⟨kw, b, f, r, l, rfl⟩ : ∃ (kw : Fin 3) (b f : Fin 5) (r : Fin 192) (l : Fin 256), y = ix5 kw b f r l := ⟨_, _, _, _, _, eq_ix5 y⟩
  simp only [mem_putAll]
  by_cases h0 : (r : ℕ) < 32
  · refine ⟨_, ⟨b, f, kw, List.mem_cons_of_mem _ List.mem_cons_self⟩, ?_⟩
    have := emb_top kw b f 0 0 0 ⟨r, h0⟩ l
    simp only [Fin.eta] at this
    show _ ∈ (Rect.unit (s := S3x5x5x192x256) ![(kw : ℕ), (b : ℕ), (f : ℕ), 0, 0] S1x1x1x32x256.size (inb_top kw b f)).set
    rw [← this]
    exact LoadRect.idx_mem _ _
  · by_cases h1 : (r : ℕ) < 160
    · refine ⟨_, ⟨b, f, kw, List.mem_cons_of_mem _ (List.mem_cons_of_mem _ List.mem_cons_self)⟩, ?_⟩
      have := emb_rows kw b f 0 0 0 ⟨r - 32, by omega⟩ l
      rw [show (⟨32 + (⟨r - 32, by omega⟩ : Fin 128).val, by simp only; omega⟩ : Fin 192) = r from Fin.ext (by simp only; omega)] at this
      show _ ∈ (Rect.unit (s := S3x5x5x192x256) ![(kw : ℕ), (b : ℕ), (f : ℕ), 32, 0] S1x1x1x128x256.size (inb_rows kw b f)).set
      rw [← this]
      exact LoadRect.idx_mem _ _
    · refine ⟨_, ⟨b, f, kw, List.mem_cons_self⟩, ?_⟩
      have := emb_bottom kw b f 0 0 0 ⟨r - 160, by omega⟩ l
      rw [show (⟨160 + (⟨r - 160, by omega⟩ : Fin 32).val, by simp only; omega⟩ : Fin 192) = r from Fin.ext (by simp only; omega)] at this
      show _ ∈ (Rect.unit (s := S3x5x5x192x256) ![(kw : ℕ), (b : ℕ), (f : ℕ), 160, 0] S1x1x1x32x256.size (inb_bottom kw b f)).set
      rw [← this]
      exact LoadRect.idx_mem _ _

/-- The scratch of stores of the frames `D` holds the padded frames, moved by the column offset. -/
theorem putAll_canon (old : Fin 5 → Fin 2 → FVec Ideal S128x256 .f32) (new : Fin 5 → Fin 3 → FVec Ideal S128x256 .f32)
    (D : Fin 5 → Fin 5 → Fin 4 → Fin 32 → Fin 256 → EReal)
    (hD : ∀ b f (r : Fin 128) l, rows old new b f (ix2 r l) = D b f ⟨r / 32, by omega⟩ ⟨r % 32, by omega⟩ l)
    (kw : Fin 3) (b f : Fin 5) (r : Fin 192) (l : Fin 256) :
    View.canon (putAll old new) (ix5 kw b f r l) = Maths.padded D b f (r / 32) (r % 32 + kw) l := by
  let K : Fin 3 → Fin 5 → Fin 5 → Fin 192 → Fin 256 → EReal := fun kw b f r l => Maths.padded D b f (r / 32) (r % 32 + kw) l
  refine View.canon_apply_of_pieces (fun y => K (y 0) (y 1) (y 2) (y 3) (y 4)) _ ?_ (ix5 kw b f r l) (putAll_cover _ _ _)
  intro p hp x
  rw [mem_putAll] at hp
  obtain ⟨b, f, kw, hp⟩ := hp
  simp only [putOne, List.mem_cons, List.not_mem_nil, or_false] at hp
  obtain rfl | rfl | rfl := hp
  · obtain ⟨u, v, w, r, l, rfl⟩ : ∃ (u v w : Fin 1) (r : Fin 32) (l : Fin 256), x = ix5 u v w r l := ⟨_, _, _, _, _, eq_ix5 x⟩
    show zeroRows (F := Ideal) (ix5 u v w r l) = (fun y : S3x5x5x192x256.Idx => K (y 0) (y 1) (y 2) (y 3) (y 4))
      ((Rect.unit (s := S3x5x5x192x256) ![(kw : ℕ), (b : ℕ), (f : ℕ), 160, 0] S1x1x1x32x256.size (inb_bottom kw b f)).idx (ix5 u v w r l))
    rw [emb_bottom, Blocks.zeroRows_apply]
    show 0 = Maths.padded D b f ((160 + r) / 32) ((160 + r) % 32 + kw) l
    rw [Maths.padded, dif_neg (by omega)]
  · obtain ⟨u, v, w, r, l, rfl⟩ : ∃ (u v w : Fin 1) (r : Fin 32) (l : Fin 256), x = ix5 u v w r l := ⟨_, _, _, _, _, eq_ix5 x⟩
    show zeroRows (F := Ideal) (ix5 u v w r l) = (fun y : S3x5x5x192x256.Idx => K (y 0) (y 1) (y 2) (y 3) (y 4))
      ((Rect.unit (s := S3x5x5x192x256) ![(kw : ℕ), (b : ℕ), (f : ℕ), 0, 0] S1x1x1x32x256.size (inb_top kw b f)).idx (ix5 u v w r l))
    rw [emb_top, Blocks.zeroRows_apply]
    show 0 = Maths.padded D b f (r / 32) (r % 32 + kw) l
    rw [Maths.padded, dif_neg (by omega)]
  · obtain ⟨u, v, w, r, l, rfl⟩ : ∃ (u v w : Fin 1) (r : Fin 128) (l : Fin 256), x = ix5 u v w r l := ⟨_, _, _, _, _, eq_ix5 x⟩
    show shifted kw (rows old new b f) (ix5 u v w r l) = (fun y : S3x5x5x192x256.Idx => K (y 0) (y 1) (y 2) (y 3) (y 4))
      ((Rect.unit (s := S3x5x5x192x256) ![(kw : ℕ), (b : ℕ), (f : ℕ), 32, 0] S1x1x1x128x256.size (inb_rows kw b f)).idx (ix5 u v w r l))
    rw [emb_rows, Blocks.shifted_apply D b f _ (hD b f)]
    show _ = Maths.padded D b f ((32 + r) / 32) ((32 + r) % 32 + kw) l
    rw [show (32 + (r : ℕ)) / 32 = r / 32 + 1 by omega, show (32 + (r : ℕ)) % 32 = r % 32 by omega]

include hA in
/-- The windows the kernel loads of its padded codes. -/
theorem pBlk_apply (kw : Fin 3) (f : Fin 5) (kh : Fin 3) (b : Fin 5) (r : Fin 128) (l : Fin 256) :
    pBlk arg0 harg0 arg1 harg1 arg2 harg2 arg10 arg11 x0 x1 x2 kw f kh (ix5 0 b 0 r l)
      = Maths.padded (inD x0 x1 x2) b f (r / 32 + kh) (r % 32 + kw) l := by
  unfold pBlk
  rw [View.readCov_eq_canon_ld _ _ _ (putAll_cover _ _)]
  have e := View.ld_unit_apply_of (View.canon (LP arg0 harg0 arg1 harg1 arg2 harg2 arg10 x0 x1 x2))
    ![(kw : ℕ), 0, (f : ℕ), 32 * (kh : ℕ), 0] S1x5x1x128x256.size (inb_window kw f kh) (ix5 0 b 0 r l)
    (ix5 kw b f ⟨32 * kh + r, by omega⟩ l) (fun a => by fin_cases a <;> simp)
  refine e.trans ?_
  rw [putAll_canon _ _ (inD x0 x1 x2)]
  · rw [show (32 * (kh : ℕ) + r) / 32 = r / 32 + kh by omega, show (32 * (kh : ℕ) + r) % 32 = r % 32 by omega]
  · intro b f r l
    unfold rows inD Maths.joined
    split
    · show oldRows _ _ = _
      rw [Blocks.oldRows_apply, cBlk_apply]
    · show newRows _ _ _ = _
      rw [Blocks.newRows_apply, codes_block _ _ _ _ _ _ _ hA]

end Cert.KernelIdeal.Scratch

end
-- ==== Proof.Results.lean ====
/-
  The kernel's three results at an index: the convolution, the codes, the scale.
-/
module

public import proofs.«01_k».proof.Proof.Scratch

@[expose] public section

noncomputable section

namespace Cert.KernelIdeal.Results

open Idealize.ShloMosaic Cert.KernelIdeal Cert.KernelIdeal.Gen Cert.KernelIdeal.Words Cert.KernelIdeal.Pieces
  Cert.KernelIdeal.Scratch Cert

variable (c : Dev nD)
  (arg0 : Memref sig .tc .vmem S5x3x4x32x256 .bf16) (harg0 : arg0.IsWhole)
  (arg1 : Memref sig .tc .vmem S1x256 .f32) (harg1 : arg1.IsWhole)
  (arg2 : Memref sig .tc .vmem S5x2x4x32x256 .fp8e4m3) (harg2 : arg2.IsWhole)
  (arg3 : Memref sig .tc .smem S1x1 .f32) (harg3 : arg3.IsWhole)
  (arg4 : Memref sig .tc .vmem S3x3x3x256x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S5x3x4x32x512 .bf16) (harg7 : arg7.IsWhole)
  (arg8 : Memref sig .tc .vmem S5x3x4x32x256 .fp8e4m3) (harg8 : arg8.IsWhole)
  (arg9 : Memref sig .tc .vmem S1x1 .f32) (harg9 : arg9.IsWhole)
  (arg10 : Memref sig .tc .vmem S5x3x128x256 .f32) (harg10 : arg10.IsWhole)
  (arg11 : Memref sig .tc .vmem S3x5x5x192x256 .fp8e4m3) (harg11 : arg11.IsWhole)
  (x0 : Vec Ideal S5x3x4x32x256 .bf16) (x1 : Vec Ideal S1x256 .f32) (x2 : Vec Ideal S5x2x4x32x256 .fp8e4m3)
  (x3 : Vec Ideal S1x1 .f32) (x4 : Vec Ideal S3x3x3x256x512 .fp8e4m3) (x5 : Vec Ideal S1x512 .f32) (x6 : Vec Ideal S1x512 .f32)
  (hA : Exponent.InRange (Maths.top (inH x0 x1)))

/-! ## The scale -/

include hA in
/-- The third result is the scale. -/
theorem out9 : out0_A_9 c arg0 harg0 arg1 harg1 arg2 harg2 arg3 harg3 arg4 harg4 arg5 harg5 arg6 harg6 arg7 harg7 arg8 harg8
    arg9 harg9 arg10 harg10 arg11 harg11 x0 x1 x2 x3 x4 x5 x6 = fun _ => Maths.scale (Maths.top (inH x0 x1)) := by
  unfold out0_A_9
  rw [View.read_writes_eq_canon _ _ _ (cover0_A_9 c arg0 harg0 arg1 harg1 arg2 harg2 arg3 harg3 arg4 harg4 arg5 harg5 arg6 harg6
    arg7 harg7 arg8 harg8 arg9 harg9 arg10 harg10 arg11 harg11 x0 x1 x2 x3 x4 x5 x6), scales_eq]
  rw [View.canon_cons_unit_lit _ _ _ (fun a => by fin_cases a <;> rfl)]
  funext y
  obtain ⟨u, v, rfl⟩ : ∃ u v : Fin 1, y = ix2 u v := ⟨_, _, eq_ix2 y⟩
  rw [Subsingleton.elim u 0, Subsingleton.elim v 0]
  exact (Exponent.scale_spec hA (vR_apply arg0 harg0 arg1 harg1 x0 x1)).1

/-! ## The codes -/

/-- Where the stored block of codes of a frame lies in the result. -/
theorem emb_new (b : Fin 5) (f : Fin 3) (u v : Fin 1) (i : Fin 4) (j : Fin 32) (l : Fin 256) :
    (Rect.unit (s := S5x3x4x32x256) ![(b : ℕ), (f : ℕ), 0, 0, 0] S1x1x4x32x256.size (inb_new b f)).idx (ix5 u v i j l) = ix5 b f i j l := by
  funext a; apply Fin.ext; rw [Rect.idx_unit_val]; fin_cases a <;> simp

/-- Stored blocks of codes, each right at every index, make the result. -/
theorem canon_blocks (G : Fin 5 → Fin 3 → Fin 4 → Fin 32 → Fin 256 → EReal) (k : FVec Ideal S1x1 .f32)
    (hb : Fin 5 → Fin 3 → Vec Ideal S1x1x128x256 .f32)
    (hq : ∀ b f r l, codes (F := Ideal) k (hb b f) (ix2 r l) = G b f ⟨r / 32, by omega⟩ ⟨r % 32, by omega⟩ l)
    (L : List (View.Piece (Elt Ideal) S5x3x4x32x256 .fp8e4m3))
    (hL : L = codePieces (F := Ideal) k hb)
    (b : Fin 5) (f : Fin 3) (i : Fin 4) (j : Fin 32) (l : Fin 256) (hcov : ∃ p ∈ L, ix5 b f i j l ∈ p.1.set) :
    View.canon (Val := Elt Ideal) (e := .fp8e4m3) L (ix5 b f i j l) = G b f i j l := by
  refine View.canon_apply_of_pieces (Val := Elt Ideal) (e := .fp8e4m3) (fun y => G (y 0) (y 1) (y 2) (y 3) (y 4)) L ?_ (ix5 b f i j l) hcov
  intro p hp x
  rw [hL] at hp
  unfold codePieces at hp
  obtain ⟨v, -, rfl⟩ := List.exists_of_mem_map hp
  obtain ⟨b, f⟩ := v
  obtain ⟨u, v, i, j, l, rfl⟩ : ∃ (u v : Fin 1) (i : Fin 4) (j : Fin 32) (l : Fin 256), x = ix5 u v i j l := ⟨_, _, _, _, _, eq_ix5 x⟩
  show codesBlock (F := Ideal) _ _ (ix5 u v i j l) = (fun y : S5x3x4x32x256.Idx => G (y 0) (y 1) (y 2) (y 3) (y 4))
    ((Rect.unit (s := S5x3x4x32x256) ![(b : ℕ), (f : ℕ), 0, 0, 0] S1x1x4x32x256.size (inb_new b f)).idx (ix5 u v i j l))
  rw [emb_new, Blocks.codesBlock_apply, hq]
  show G _ _ _ _ _ = G b f i j l
  congr 1 <;> (apply Fin.ext; simp only; omega)

include hA in
/-- The second result is the codes. -/
theorem out8 (b : Fin 5) (f : Fin 3) (i : Fin 4) (j : Fin 32) (l : Fin 256) :
    out0_A_8 c arg0 harg0 arg1 harg1 arg2 harg2 arg3 harg3 arg4 harg4 arg5 harg5 arg6 harg6 arg7 harg7 arg8 harg8
    arg9 harg9 arg10 harg10 arg11 harg11 x0 x1 x2 x3 x4 x5 x6 (ix5 b f i j l) = Maths.code (inH x0 x1) b f i j l := by
  unfold out0_A_8
  rw [View.read_writes_eq_canon _ _ _ (cover0_A_8 c arg0 harg0 arg1 harg1 arg2 harg2 arg3 harg3 arg4 harg4 arg5 harg5 arg6 harg6
    arg7 harg7 arg8 harg8 arg9 harg9 arg10 harg10 arg11 harg11 x0 x1 x2 x3 x4 x5 x6)]
  have e := codes_eq c arg0 harg0 arg1 harg1 arg2 harg2 arg3 harg3 arg4 harg4 arg5 harg5 arg6 harg6
    arg7 harg7 arg8 harg8 arg9 harg9 arg10 harg10 arg11 harg11 x0 x1 x2 x3 x4 x5 x6
  have cov := cover0_A_8 c arg0 harg0 arg1 harg1 arg2 harg2 arg3 harg3 arg4 harg4 arg5 harg5 arg6 harg6
    arg7 harg7 arg8 harg8 arg9 harg9 arg10 harg10 arg11 harg11 x0 x1 x2 x3 x4 x5 x6 (ix5 b f i j l)
  generalize (kernelRun0_A c arg0 harg0 arg1 harg1 arg2 harg2 arg3 harg3 arg4 harg4 arg5 harg5 arg6 harg6
    arg7 harg7 arg8 harg8 arg9 harg9 arg10 harg10 arg11 harg11 x0 x1 x2 x3 x4 x5 x6).2.1 = L at e cov ⊢
  exact canon_blocks (Maths.code (inH x0 x1)) _ _ (codes_block arg0 harg0 arg1 harg1 arg10 x0 x1 hA) L e b f i j l cov

/-! ## The convolution -/

include hA in
/-- One tap's product at a row. -/
theorem tap_block (f : Fin 3) (kt kh kw : Fin 3) (b : Fin 5) (i : Fin 4) (j : Fin 32) (o : Fin 512) :
    Words.tap (pBlk arg0 harg0 arg1 harg1 arg2 harg2 arg10 arg11 x0 x1 x2 kw ⟨f + kt, by omega⟩ kh) (wBlk arg4 harg4 x4 kt kh kw)
        (ix2 ⟨b * 128 + i * 32 + j, by omega⟩ o)
      = Maths.tap (inD x0 x1 x2) (inW x4) b f i j o kt kh kw := by
  rw [Blocks.tap_apply]
  unfold Maths.tap
  refine Finset.sum_congr rfl fun l _ => ?_
  rw [wBlk_apply, pBlk_apply _ _ _ _ _ _ _ _ _ _ _ hA]
  congr 2
  · apply Fin.ext; simp only; omega
  · simp only; omega
  · simp only; omega

include hA in
/-- A list of taps at a row. -/
theorem total_prods (f : Fin 3) (L : List (Fin 3 × Fin 3 × Fin 3)) (b : Fin 5) (i : Fin 4) (j : Fin 32) (o : Fin 512) :
    Words.total (prods (pBlk arg0 harg0 arg1 harg1 arg2 harg2 arg10 arg11 x0 x1 x2) (wBlk arg4 harg4 x4) f L)
        (ix2 ⟨b * 128 + i * 32 + j, by omega⟩ o)
      = (L.map fun t => Maths.tap (inD x0 x1 x2) (inW x4) b f i j o t.1 t.2.1 t.2.2).sum := by
  rw [Blocks.total_apply]
  unfold prods
  rw [List.map_map]
  refine congrArg List.sum (List.map_congr_left fun t _ => ?_)
  exact tap_block arg0 harg0 arg1 harg1 arg2 harg2 arg4 harg4 arg10 arg11 x0 x1 x2 x4 hA f t.1 t.2.1 t.2.2 b i j o

/-- The taps of one frame offset, as sums. -/
theorem taps_sum (T : Fin 3 → Fin 3 → Fin 3 → EReal) (kt : Fin 3) :
    ((taps kt).map fun t => T t.1 t.2.1 t.2.2).sum = ∑ kh : Fin 3, ∑ kw : Fin 3, T kt kh kw := by
  simp only [taps, List.map_cons, List.map_nil, List.sum_cons, List.sum_nil, Fin.sum_univ_three, add_zero, add_assoc]

/-- Scaling the taps of one frame offset. -/
theorem scaled_sum (T : Fin 3 → Fin 3 → Fin 3 → EReal) (kt : Fin 3) {s : EReal} (h0 : 0 ≤ s) (h1 : s ≠ ⊤) :
    (∑ kh : Fin 3, ∑ kw : Fin 3, T kt kh kw * s) = (∑ kh : Fin 3, ∑ kw : Fin 3, T kt kh kw) * s := by
  rw [Maths.sum_mul _ _ h0 h1]
  exact Finset.sum_congr rfl fun _ _ => (Maths.sum_mul _ _ h0 h1).symm

/-- A finite nonnegative factor goes into a sum of two. -/
theorem add_mul' (a b : EReal) {s : EReal} (h0 : 0 ≤ s) (h1 : s ≠ ⊤) : (a + b) * s = a * s + b * s := by
  rw [mul_comm, EReal.left_distrib_of_nonneg_of_ne_top h0 h1, mul_comm s, mul_comm s]

/-- Where a stored output frame lies in the result. -/
theorem emb_frame (f : Fin 3) (b : Fin 5) (u : Fin 1) (i : Fin 4) (j : Fin 32) (o : Fin 512) :
    (Rect.unit (s := S5x3x4x32x512) ![0, (f : ℕ), 0, 0, 0] S5x1x4x32x512.size (inb_frame f)).idx (ix5 b u i j o) = ix5 b f i j o := by
  funext a; apply Fin.ext; rw [Rect.idx_unit_val]; fin_cases a <;> simp

/-- Output frame 2 sees new frames alone. -/
theorem parts_2 (T : Fin 3 → Fin 3 → Fin 3 → EReal) (cs : EReal) {s : EReal} (s2 : 0 ≤ s) (s3 : s ≠ ⊤) :
    ((∑ kh : Fin 3, ∑ kw : Fin 3, T 0 kh kw) + (∑ kh : Fin 3, ∑ kw : Fin 3, T 1 kh kw) + (∑ kh : Fin 3, ∑ kw : Fin 3, T 2 kh kw)) * s
      = ∑ kt : Fin 3, ∑ kh : Fin 3, ∑ kw : Fin 3, T kt kh kw * Maths.frameScale cs s ⟨((2 : Fin 3) : ℕ) + kt, by omega⟩ := by
  have e : ∀ kt : Fin 3, Maths.frameScale cs s ⟨((2 : Fin 3) : ℕ) + kt, by omega⟩ = s := fun kt => if_neg (by simp only [Fin.val_two]; omega)
  simp only [e]
  rw [Fin.sum_univ_three (fun kt => ∑ kh : Fin 3, ∑ kw : Fin 3, T kt kh kw * s)]
  rw [scaled_sum _ _ s2 s3, scaled_sum _ _ s2 s3, scaled_sum _ _ s2 s3, add_mul' _ _ s2 s3, add_mul' _ _ s2 s3]

/-- Output frame 1 sees one cached frame. -/
theorem parts_1 (T : Fin 3 → Fin 3 → Fin 3 → EReal) {cs s : EReal} (c2 : 0 ≤ cs) (c3 : cs ≠ ⊤) (s2 : 0 ≤ s) (s3 : s ≠ ⊤) :
    ((∑ kh : Fin 3, ∑ kw : Fin 3, T 1 kh kw) + (∑ kh : Fin 3, ∑ kw : Fin 3, T 2 kh kw)) * s + (∑ kh : Fin 3, ∑ kw : Fin 3, T 0 kh kw) * cs
      = ∑ kt : Fin 3, ∑ kh : Fin 3, ∑ kw : Fin 3, T kt kh kw * Maths.frameScale cs s ⟨((1 : Fin 3) : ℕ) + kt, by omega⟩ := by
  have e0 : Maths.frameScale cs s ⟨((1 : Fin 3) : ℕ) + ((0 : Fin 3) : ℕ), by decide⟩ = cs := if_pos (by decide)
  have e1 : Maths.frameScale cs s ⟨((1 : Fin 3) : ℕ) + ((1 : Fin 3) : ℕ), by decide⟩ = s := if_neg (by decide)
  have e2 : Maths.frameScale cs s ⟨((1 : Fin 3) : ℕ) + ((2 : Fin 3) : ℕ), by decide⟩ = s := if_neg (by decide)
  rw [Fin.sum_univ_three (fun kt : Fin 3 => ∑ kh : Fin 3, ∑ kw : Fin 3, T kt kh kw * Maths.frameScale cs s ⟨((1 : Fin 3) : ℕ) + kt, by omega⟩), e0, e1, e2]
  rw [scaled_sum _ _ s2 s3, scaled_sum _ _ s2 s3, scaled_sum _ _ c2 c3, add_mul' _ _ s2 s3, add_comm, add_assoc]

/-- Output frame 0 sees two cached frames. -/
theorem parts_0 (T : Fin 3 → Fin 3 → Fin 3 → EReal) {cs s : EReal} (c2 : 0 ≤ cs) (c3 : cs ≠ ⊤) (s2 : 0 ≤ s) (s3 : s ≠ ⊤) :
    (∑ kh : Fin 3, ∑ kw : Fin 3, T 2 kh kw) * s + ((∑ kh : Fin 3, ∑ kw : Fin 3, T 0 kh kw) + (∑ kh : Fin 3, ∑ kw : Fin 3, T 1 kh kw)) * cs
      = ∑ kt : Fin 3, ∑ kh : Fin 3, ∑ kw : Fin 3, T kt kh kw * Maths.frameScale cs s ⟨((0 : Fin 3) : ℕ) + kt, by omega⟩ := by
  have e0 : Maths.frameScale cs s ⟨((0 : Fin 3) : ℕ) + ((0 : Fin 3) : ℕ), by decide⟩ = cs := if_pos (by decide)
  have e1 : Maths.frameScale cs s ⟨((0 : Fin 3) : ℕ) + ((1 : Fin 3) : ℕ), by decide⟩ = cs := if_pos (by decide)
  have e2 : Maths.frameScale cs s ⟨((0 : Fin 3) : ℕ) + ((2 : Fin 3) : ℕ), by decide⟩ = s := if_neg (by decide)
  rw [Fin.sum_univ_three (fun kt : Fin 3 => ∑ kh : Fin 3, ∑ kw : Fin 3, T kt kh kw * Maths.frameScale cs s ⟨((0 : Fin 3) : ℕ) + kt, by omega⟩), e0, e1, e2]
  rw [scaled_sum _ _ s2 s3, scaled_sum _ _ c2 c3, scaled_sum _ _ c2 c3, add_mul' _ _ c2 c3, add_comm]

include hA in
/-- Output frame 2. -/
theorem frame_2 (b : Fin 5) (u : Fin 1) (i : Fin 4) (j : Fin 32) (o : Fin 512) :
    finish (F := Ideal) (newPart (F := Ideal) (scale (vR arg0 harg0 arg1 harg1 x0 x1)) (prods (pBlk arg0 harg0 arg1 harg1 arg2 harg2 arg10 arg11 x0 x1 x2) (wBlk arg4 harg4 x4) 2 (taps 0 ++ taps 1 ++ taps 2)))
        (wsRow arg5 harg5 x5) (bRow arg6 harg6 x6) (ix5 b u i j o)
      = Maths.out (inD x0 x1 x2) (x3 (ix2 0 0)) (Maths.scale (Maths.top (inH x0 x1))) (inW x4) (row512 x5) (row512 x6) b 2 i j o := by
  obtain ⟨s1, -, s2, s3⟩ := Exponent.scale_spec hA (vR_apply arg0 harg0 arg1 harg1 x0 x1)
  rw [Blocks.finish_apply]
  rw [Blocks.newPart_apply, total_prods _ _ _ _ _ _ _ _ _ _ _ _ _ _ hA, s1, wsRow_apply, bRow_apply]
  unfold Maths.out
  simp only [List.map_append, List.sum_append, taps_sum (Maths.tap (inD x0 x1 x2) (inW x4) b 2 i j o)]
  exact congrArg (fun z => z * row512 x5 o + row512 x6 o) (parts_2 _ _ s2 s3)

include hA in
/-- Output frame 1. -/
theorem frame_1 (hc0 : 0 ≤ x3 (ix2 0 0)) (hc1 : x3 (ix2 0 0) ≠ ⊤) (b : Fin 5) (u : Fin 1) (i : Fin 4) (j : Fin 32) (o : Fin 512) :
    finish (F := Ideal) (addf (newPart (F := Ideal) (scale (vR arg0 harg0 arg1 harg1 x0 x1)) (prods (pBlk arg0 harg0 arg1 harg1 arg2 harg2 arg10 arg11 x0 x1 x2) (wBlk arg4 harg4 x4) 1 (taps 1 ++ taps 2)))
        (oldPart (F := Ideal) (csR arg3 harg3 x3) (prods (pBlk arg0 harg0 arg1 harg1 arg2 harg2 arg10 arg11 x0 x1 x2) (wBlk arg4 harg4 x4) 1 (taps 0))))
        (wsRow arg5 harg5 x5) (bRow arg6 harg6 x6) (ix5 b u i j o)
      = Maths.out (inD x0 x1 x2) (x3 (ix2 0 0)) (Maths.scale (Maths.top (inH x0 x1))) (inW x4) (row512 x5) (row512 x6) b 1 i j o := by
  obtain ⟨s1, -, s2, s3⟩ := Exponent.scale_spec hA (vR_apply arg0 harg0 arg1 harg1 x0 x1)
  rw [Blocks.finish_apply]
  show (newPart _ _ _ + oldPart _ _ _) * _ + _ = _
  rw [Blocks.newPart_apply, Blocks.oldPart_apply, total_prods _ _ _ _ _ _ _ _ _ _ _ _ _ _ hA, total_prods _ _ _ _ _ _ _ _ _ _ _ _ _ _ hA,
    s1, wsRow_apply, bRow_apply, csR_apply]
  unfold Maths.out
  simp only [List.map_append, List.sum_append, taps_sum (Maths.tap (inD x0 x1 x2) (inW x4) b 1 i j o)]
  exact congrArg (fun z => z * row512 x5 o + row512 x6 o) (parts_1 _ hc0 hc1 s2 s3)

include hA in
/-- Output frame 0. -/
theorem frame_0 (hc0 : 0 ≤ x3 (ix2 0 0)) (hc1 : x3 (ix2 0 0) ≠ ⊤) (b : Fin 5) (u : Fin 1) (i : Fin 4) (j : Fin 32) (o : Fin 512) :
    finish (F := Ideal) (addf (newPart (F := Ideal) (scale (vR arg0 harg0 arg1 harg1 x0 x1)) (prods (pBlk arg0 harg0 arg1 harg1 arg2 harg2 arg10 arg11 x0 x1 x2) (wBlk arg4 harg4 x4) 0 (taps 2)))
        (oldPart (F := Ideal) (csR arg3 harg3 x3) (prods (pBlk arg0 harg0 arg1 harg1 arg2 harg2 arg10 arg11 x0 x1 x2) (wBlk arg4 harg4 x4) 0 (taps 0 ++ taps 1))))
        (wsRow arg5 harg5 x5) (bRow arg6 harg6 x6) (ix5 b u i j o)
      = Maths.out (inD x0 x1 x2) (x3 (ix2 0 0)) (Maths.scale (Maths.top (inH x0 x1))) (inW x4) (row512 x5) (row512 x6) b 0 i j o := by
  obtain ⟨s1, -, s2, s3⟩ := Exponent.scale_spec hA (vR_apply arg0 harg0 arg1 harg1 x0 x1)
  rw [Blocks.finish_apply]
  show (newPart _ _ _ + oldPart _ _ _) * _ + _ = _
  rw [Blocks.newPart_apply, Blocks.oldPart_apply, total_prods _ _ _ _ _ _ _ _ _ _ _ _ _ _ hA, total_prods _ _ _ _ _ _ _ _ _ _ _ _ _ _ hA,
    s1, wsRow_apply, bRow_apply, csR_apply]
  unfold Maths.out
  simp only [List.map_append, List.sum_append, taps_sum (Maths.tap (inD x0 x1 x2) (inW x4) b 0 i j o)]
  exact congrArg (fun z => z * row512 x5 o + row512 x6 o) (parts_0 _ hc0 hc1 s2 s3)

/-- Three stored frames, each right at every index, make the result. -/
theorem canon_frames (G : Fin 5 → Fin 3 → Fin 4 → Fin 32 → Fin 512 → EReal) (q : Fin 3 → FVec Ideal S5x1x4x32x512 .bf16)
    (hq : ∀ f b u i j o, q f (ix5 b u i j o) = G b f i j o)
    (L : List (View.Piece (Elt Ideal) S5x3x4x32x512 .bf16))
    (hL : ∀ p ∈ L, ∃ f : Fin 3, p = ⟨Rect.unit ![0, (f : ℕ), 0, 0, 0] S5x1x4x32x512.size (inb_frame f), q f⟩)
    (b : Fin 5) (f : Fin 3) (i : Fin 4) (j : Fin 32) (o : Fin 512) (hcov : ∃ p ∈ L, ix5 b f i j o ∈ p.1.set) :
    View.canon (Val := Elt Ideal) (e := .bf16) L (ix5 b f i j o) = G b f i j o := by
  refine View.canon_apply_of_pieces (Val := Elt Ideal) (e := .bf16) (fun y => G (y 0) (y 1) (y 2) (y 3) (y 4)) L ?_ (ix5 b f i j o) hcov
  intro p hp x
  obtain ⟨f, rfl⟩ := hL p hp
  obtain ⟨b, u, i, j, o, rfl⟩ : ∃ (b : Fin 5) (u : Fin 1) (i : Fin 4) (j : Fin 32) (o : Fin 512), x = ix5 b u i j o := ⟨_, _, _, _, _, eq_ix5 x⟩
  show q f (ix5 b u i j o) = (fun y : S5x3x4x32x512.Idx => G (y 0) (y 1) (y 2) (y 3) (y 4))
    ((Rect.unit (s := S5x3x4x32x512) ![0, (f : ℕ), 0, 0, 0] S5x1x4x32x512.size (inb_frame f)).idx (ix5 b u i j o))
  rw [emb_frame]
  exact hq f b u i j o

include hA in
/-- The stored output frames, read at an index. -/
theorem canon_outs (hc0 : 0 ≤ x3 (ix2 0 0)) (hc1 : x3 (ix2 0 0) ≠ ⊤) (b : Fin 5) (f : Fin 3) (i : Fin 4) (j : Fin 32) (o : Fin 512)
    (hcov : ∃ p ∈ outPieces (F := Ideal) (scale (vR arg0 harg0 arg1 harg1 x0 x1)) (csR arg3 harg3 x3)
        (pBlk arg0 harg0 arg1 harg1 arg2 harg2 arg10 arg11 x0 x1 x2) (wBlk arg4 harg4 x4) (wsRow arg5 harg5 x5) (bRow arg6 harg6 x6), ix5 b f i j o ∈ p.1.set) :
    View.canon (Val := Elt Ideal) (e := .bf16) (outPieces (F := Ideal) (scale (vR arg0 harg0 arg1 harg1 x0 x1)) (csR arg3 harg3 x3)
        (pBlk arg0 harg0 arg1 harg1 arg2 harg2 arg10 arg11 x0 x1 x2) (wBlk arg4 harg4 x4) (wsRow arg5 harg5 x5) (bRow arg6 harg6 x6)) (ix5 b f i j o)
      = Maths.out (inD x0 x1 x2) (x3 (ix2 0 0)) (Maths.scale (Maths.top (inH x0 x1))) (inW x4) (row512 x5) (row512 x6) b f i j o := by
  have h0 := frame_0 arg0 harg0 arg1 harg1 arg2 harg2 arg3 harg3 arg4 harg4 arg5 harg5 arg6 harg6 arg10 arg11 x0 x1 x2 x3 x4 x5 x6 hA hc0 hc1
  have h1 := frame_1 arg0 harg0 arg1 harg1 arg2 harg2 arg3 harg3 arg4 harg4 arg5 harg5 arg6 harg6 arg10 arg11 x0 x1 x2 x3 x4 x5 x6 hA hc0 hc1
  have h2 := frame_2 arg0 harg0 arg1 harg1 arg2 harg2 arg4 harg4 arg5 harg5 arg6 harg6 arg10 arg11 x0 x1 x2 x3 x4 x5 x6 hA
  unfold outPieces at hcov ⊢
  generalize finish (F := Ideal) _ _ _ = q0 at h0 hcov ⊢
  generalize finish (F := Ideal) _ _ _ = q1 at h1 hcov ⊢
  generalize finish (F := Ideal) _ _ _ = q2 at h2 hcov ⊢
  refine canon_frames (Maths.out (inD x0 x1 x2) (x3 (ix2 0 0)) (Maths.scale (Maths.top (inH x0 x1))) (inW x4) (row512 x5) (row512 x6)) ![q0, q1, q2] ?_ _ ?_ b f i j o hcov
  · intro f
    fin_cases f
    exacts [h0, h1, h2]
  · intro p hp
    rcases List.mem_cons.1 hp with rfl | hp
    · exact ⟨2, rfl⟩
    rcases List.mem_cons.1 hp with rfl | hp
    · exact ⟨1, rfl⟩
    rcases List.mem_cons.1 hp with rfl | hp
    · exact ⟨0, rfl⟩
    · exact absurd hp List.not_mem_nil

include hA in
/-- The first result is the convolution. -/
theorem out7 (hc0 : 0 ≤ x3 (ix2 0 0)) (hc1 : x3 (ix2 0 0) ≠ ⊤) (b : Fin 5) (f : Fin 3) (i : Fin 4) (j : Fin 32) (o : Fin 512) :
    out0_A_7 c arg0 harg0 arg1 harg1 arg2 harg2 arg3 harg3 arg4 harg4 arg5 harg5 arg6 harg6 arg7 harg7 arg8 harg8
    arg9 harg9 arg10 harg10 arg11 harg11 x0 x1 x2 x3 x4 x5 x6 (ix5 b f i j o)
      = Maths.out (inD x0 x1 x2) (x3 (ix2 0 0)) (Maths.scale (Maths.top (inH x0 x1))) (inW x4) (row512 x5) (row512 x6) b f i j o := by
  unfold out0_A_7
  rw [View.read_writes_eq_canon _ _ _ (cover0_A_7 c arg0 harg0 arg1 harg1 arg2 harg2 arg3 harg3 arg4 harg4 arg5 harg5 arg6 harg6
    arg7 harg7 arg8 harg8 arg9 harg9 arg10 harg10 arg11 harg11 x0 x1 x2 x3 x4 x5 x6)]
  have e := outs_eq c arg0 harg0 arg1 harg1 arg2 harg2 arg3 harg3 arg4 harg4 arg5 harg5 arg6 harg6
    arg7 harg7 arg8 harg8 arg9 harg9 arg10 harg10 arg11 harg11 x0 x1 x2 x3 x4 x5 x6
  have cov := cover0_A_7 c arg0 harg0 arg1 harg1 arg2 harg2 arg3 harg3 arg4 harg4 arg5 harg5 arg6 harg6
    arg7 harg7 arg8 harg8 arg9 harg9 arg10 harg10 arg11 harg11 x0 x1 x2 x3 x4 x5 x6 (ix5 b f i j o)
  generalize (kernelRun0_A c arg0 harg0 arg1 harg1 arg2 harg2 arg3 harg3 arg4 harg4 arg5 harg5 arg6 harg6
    arg7 harg7 arg8 harg8 arg9 harg9 arg10 harg10 arg11 harg11 x0 x1 x2 x3 x4 x5 x6).1 = L at e cov ⊢
  subst e
  exact canon_outs arg0 harg0 arg1 harg1 arg2 harg2 arg3 harg3 arg4 harg4 arg5 harg5 arg6 harg6 arg10 arg11 x0 x1 x2 x3 x4 x5 x6 hA
    hc0 hc1 b f i j o cov

end Cert.KernelIdeal.Results

end
-- ==== Proof.Precondition.lean ====
module

public import proofs.«01_k».proof.Proof.Exponent
public import proofs.«01_k».proof.Proof.Maths
public import proofs.«01_k».proof.Pre_scale_in_range
public import Idealize.ShloMosaic.Lib.Pointwise

/-! # What the precondition says

The precondition is printed as a function of the arguments with one bit as its value. That bit is 1 exactly when the largest
magnitude of the activations is 0 or gives a ratio whose exponent can be read, and the cached scale is nonnegative and finite. -/

@[expose] public section

noncomputable section

namespace Cert.Pre_scale_in_range

open Idealize.ShloMosaic Cert

/-- The shape relations the precondition's operations take. -/
theorem facts : Facts where
  bitsLt_bf16_f32 := by decide
  reducesTo_S5x3x4x32x256_S5x3x4x32_d4 := by decide
  h_S_ := by decide
  bcast_S5x3x4x32_S5x3x4x32x1_0_1_2_3 := by decide
  bcast_S_S5x3x4x32x1 := by decide
  bcast_S5x3x4x32x1_S5x3x4x32x256_0_1_2_3_4 := by decide
  bcast_S256_S1x1x1x1x256_4 := by decide
  bcast_S1x1x1x1x256_S5x3x4x32x256_0_1_2_3_4 := by decide
  bcast_S_S5x3x4x32x256 := by decide
  reducesTo_S5x3x4x32x256_S_d0_1_2_3_4 := by decide

variable [Facts]
open Facts

/-- A left fold of maxima is at most `c` when its start and all its terms are. -/
theorem foldl_max_le {ι : Type} (u : ι → EReal) (c : EReal) (L : List ι) (a : EReal) :
    L.foldl (fun r n => max r (u n)) a ≤ c ↔ a ≤ c ∧ ∀ n ∈ L, u n ≤ c := by
  induction L generalizing a with
  | nil => simp
  | cons n L ih => rw [List.foldl_cons, ih]; simp [max_le_iff, and_assoc]

/-- The maximum over the whole array is the largest of its entries. -/
theorem reduce_top (v : FVec Ideal S5x3x4x32x256 .f32) (y : S_.Idx) :
    (Host.reduce FloatOps.maximumf (Host.absf v) (constant S_ .f32 0xFF800000#32) reducesTo_S5x3x4x32x256_S_d0_1_2_3_4 h_S_
      : FVec Ideal S_ .f32) y = Maths.top (fun b f i j l => v (ix5 b f i j l)) := by
  have lit : Ideal.ofBits .f32 0xFF800000#32 = ⊥ := by simp [Ideal.ofBits, Ideal.ieee]
  refine eq_of_forall_ge_iff fun c => ?_
  rw [Maths.top_le]
  refine (foldl_max_le (fun n => Maths.mag (v (S5x3x4x32x256.rowMajor.symm n))) c _ (Ideal.ofBits .f32 0xFF800000#32)).trans ?_
  rw [lit]
  constructor
  · intro h b f i j l
    have := h.2 (S5x3x4x32x256.rowMajor (ix5 b f i j l)) (List.mem_filter.mpr ⟨List.mem_finRange _, by
      rw [decide_eq_true_iff]; exact funext fun a => a.elim0⟩)
    rwa [Equiv.symm_apply_apply] at this
  · refine fun h => ⟨bot_le, fun n _ => ?_⟩
    generalize S5x3x4x32x256.rowMajor.symm n = y
    rw [eq_ix5 y]
    exact h _ _ _ _ _

/-- The precondition's last bit, read for any maximum `w` of the magnitudes. -/
theorem bits_apply (w a3 : FVec Ideal S_ .f32) (y : S_.Idx)
    (h : andi (andi (ori (cmpf .oeq w (constant S_ .f32 0x00000000#32))
        (andi (cmpf .oge (mulf w (constant S_ .f32 0x3B124925#32)) (constant S_ .f32 0x00800000#32))
          (cmpf .olt (mulf w (constant S_ .f32 0x3B124925#32)) (constant S_ .f32 0x7E800000#32))))
        (cmpf .oge a3 (constant S_ .f32 0x00000000#32))) (cmpf .olt a3 (constant S_ .f32 0x7F800000#32)) y = 1#1) :
    Exponent.InRange (w y) ∧ 0 ≤ a3 y ∧ a3 y ≠ ⊤ := by
  have lit : Ideal.ofBits .f32 0x7F800000#32 = ⊤ := by simp [Ideal.ofBits, Ideal.ieee]
  have e : ∀ p q r s t : Prop, [Decidable p] → [Decidable q] → [Decidable r] → [Decidable s] → [Decidable t] →
      IntOp.andi (IntOp.andi (IntOp.ori (BitVec.ofBool (decide p)) (IntOp.andi (BitVec.ofBool (decide q)) (BitVec.ofBool (decide r))))
        (BitVec.ofBool (decide s))) (BitVec.ofBool (decide t)) = 1#1 → (p ∨ q ∧ r) ∧ s ∧ t := by
    intro p q r s t _ _ _ _ _
    by_cases p <;> by_cases q <;> by_cases r <;> by_cases s <;> by_cases t <;> simp_all [IntOp.andi, IntOp.ori]
  have k := e (w y = Ideal.ofBits .f32 0x00000000#32) (Ideal.ofBits .f32 0x00800000#32 ≤ w y * Ideal.ofBits .f32 0x3B124925#32)
    (w y * Ideal.ofBits .f32 0x3B124925#32 < Ideal.ofBits .f32 0x7E800000#32) (Ideal.ofBits .f32 0x00000000#32 ≤ a3 y)
    (a3 y < Ideal.ofBits .f32 0x7F800000#32) h
  rw [Ideal.ofBits_zero, lit] at k
  exact ⟨k.1, k.2.1, k.2.2.ne⟩

/-- The normalised input. -/
def normed (x : FVec Ideal S5x3x4x32x256 .bf16) (g : FVec Ideal S256 .f32) : FVec Ideal S5x3x4x32x256 .f32 :=
  mulf (mulf (extf .f32 x bitsLt_bf16_f32) (broadcastInDim S5x3x4x32x256 ![0, 1, 2, 3, 4] bcast_S5x3x4x32x1_S5x3x4x32x256_0_1_2_3_4
    (Host.rsqrt (addf (Host.divf (broadcastInDim S5x3x4x32x1 ![0, 1, 2, 3] bcast_S5x3x4x32_S5x3x4x32x1_0_1_2_3
        (Host.reduceAdd (mulf (extf .f32 x bitsLt_bf16_f32) (extf .f32 x bitsLt_bf16_f32)) (constant S_ .f32 0x00000000#32)
          reducesTo_S5x3x4x32x256_S5x3x4x32_d4 h_S_))
      (broadcastInDim S5x3x4x32x1 ![] bcast_S_S5x3x4x32x1 (constant S_ .f32 0x43800000#32)))
      (broadcastInDim S5x3x4x32x1 ![] bcast_S_S5x3x4x32x1 (constant S_ .f32 0x358637BD#32))))))
    (broadcastInDim S5x3x4x32x256 ![0, 1, 2, 3, 4] bcast_S1x1x1x1x256_S5x3x4x32x256_0_1_2_3_4
      (broadcastInDim S1x1x1x1x256 ![4] bcast_S256_S1x1x1x1x256_4 g))

/-- The normalised input at an index. -/
theorem normed_apply (x : FVec Ideal S5x3x4x32x256 .bf16) (g : FVec Ideal S256 .f32)
    (b : Fin 5) (f : Fin 3) (i : Fin 4) (j : Fin 32) (l : Fin 256) :
    normed x g (ix5 b f i j l) = Maths.rms (fun b f i j l => x (ix5 b f i j l)) (fun l => g (ix1 l)) b f i j l := by
  pointwise [normed, Maths.rms]

/-- The activations of a normalised input. -/
def silu (v : FVec Ideal S5x3x4x32x256 .f32) : FVec Ideal S5x3x4x32x256 .f32 :=
  mulf v (Host.divf (broadcastInDim S5x3x4x32x256 ![] bcast_S_S5x3x4x32x256 (constant S_ .f32 0x3F800000#32))
    (addf (broadcastInDim S5x3x4x32x256 ![] bcast_S_S5x3x4x32x256 (constant S_ .f32 0x3F800000#32)) (Host.exp (Host.negf v))))

/-- The activations at an index. -/
theorem silu_apply (v : FVec Ideal S5x3x4x32x256 .f32) (y : S5x3x4x32x256.Idx) :
    silu v y = v y * Ideal.logistic (v y) := by
  have lit : Ideal.ofBits .f32 0x3F800000#32 = 1 := by simp [Ideal.ofBits, Ideal.ieee, -EReal.coe_mul]; norm_num
  have h : silu v y = v y * Ideal.div (Ideal.ofBits .f32 0x3F800000#32) (Ideal.ofBits .f32 0x3F800000#32 + Ideal.exp (-(v y))) := by
    pointwise [silu]
  rw [h, lit, Ideal.logistic]

/-- The precondition: the ratio's exponent can be read, and the cached scale is nonnegative and finite. -/
theorem spec (a0 : FVec Ideal S5x3x4x32x256 .bf16) (a1 : FVec Ideal S256 .f32) (a2 : FVec Ideal S5x2x4x32x256 .fp8e4m3)
    (a3 : FVec Ideal S_ .f32) (a4 : FVec Ideal S3x3x3x256x512 .fp8e4m3) (a5 a6 : FVec Ideal S512 .f32)
    (h : fn (F := Ideal) a0 a1 a2 a3 a4 a5 a6 = fun _ => 1#1) (y : S_.Idx) :
    Exponent.InRange (Maths.top (Maths.act (fun b f i j l => a0 (ix5 b f i j l)) (fun l => a1 (ix1 l)))) ∧ 0 ≤ a3 y ∧ a3 y ≠ ⊤ := by
  have e := bits_apply (Host.reduce FloatOps.maximumf (Host.absf (silu (normed a0 a1))) (constant S_ .f32 0xFF800000#32)
    reducesTo_S5x3x4x32x256_S_d0_1_2_3_4 h_S_) a3 y (congrFun h y)
  rw [reduce_top] at e
  have r : (fun b f i j l => silu (normed a0 a1) (ix5 b f i j l))
      = Maths.act (fun b f i j l => a0 (ix5 b f i j l)) (fun l => a1 (ix1 l)) := by
    funext b f i j l
    rw [silu_apply, normed_apply, Maths.act]
  rwa [r] at e

end Cert.Pre_scale_in_range

end
-- ==== Proof.Expected.lean ====
/-
  The three results as functions of the seven arguments: what both programs are shown to compute.
-/
module

public import proofs.«01_k».proof.Proof.Maths
public import proofs.«01_k».proof.Proof.Precondition

@[expose] public section

noncomputable section

namespace Cert.Expected

open Idealize.ShloMosaic Cert

/-- The shape of the output. -/
abbrev SOut : Shape := ⟨5, ![5, 3, 4, 32, 512]⟩
/-- The shape of the new codes. -/
abbrev SCodes : Shape := ⟨5, ![5, 3, 4, 32, 256]⟩
/-- The shape of the cached codes. -/
abbrev SCache : Shape := ⟨5, ![5, 2, 4, 32, 256]⟩
/-- The shape of the weights. -/
abbrev SWeights : Shape := ⟨5, ![3, 3, 3, 256, 512]⟩
/-- The shape of a number. -/
abbrev SNum : Shape := ⟨0, ![]⟩

/-- The one index of a number. -/
def pt : SNum.Idx := fun a => a.elim0

/-- The activations. -/
def acts (x : FVec Ideal SCodes .bf16) (g : FVec Ideal ⟨1, ![256]⟩ .f32) : Maths.Frames :=
  Maths.act (fun b f i j l => x (ix5 b f i j l)) (fun l => g (ix1 l))

/-- The scale of the new codes. -/
def scale (x : FVec Ideal SCodes .bf16) (g : FVec Ideal ⟨1, ![256]⟩ .f32) : FVec Ideal ⟨2, ![1, 1]⟩ .f32 :=
  fun _ => Maths.scale (Maths.top (acts x g))

/-- The new codes. -/
def codes (x : FVec Ideal SCodes .bf16) (g : FVec Ideal ⟨1, ![256]⟩ .f32) : FVec Ideal SCodes .fp8e4m3 :=
  fun y => Maths.code (acts x g) (y 0) (y 1) (y 2) (y 3) (y 4)

/-- The output. -/
def out (x : FVec Ideal SCodes .bf16) (g : FVec Ideal ⟨1, ![256]⟩ .f32) (cache : FVec Ideal SCache .fp8e4m3)
    (cs : FVec Ideal SNum .f32) (w : FVec Ideal SWeights .fp8e4m3) (ws bias : FVec Ideal ⟨1, ![512]⟩ .f32) : FVec Ideal SOut .bf16 :=
  fun y => Maths.out (Maths.joined (fun b f i j l => cache (ix5 b f i j l)) (Maths.code (acts x g))) (cs pt)
    (Maths.scale (Maths.top (acts x g))) (fun kt kh kw l o => w (ix5 kt kh kw l o)) (fun o => ws (ix1 o)) (fun o => bias (ix1 o))
    (y 0) (y 1) (y 2) (y 3) (y 4)

/-- What the values depend on: the scale's exponent can be read, and the cached scale is nonnegative and finite. -/
structure Good (x : FVec Ideal SCodes .bf16) (g : FVec Ideal ⟨1, ![256]⟩ .f32) (cs : FVec Ideal SNum .f32) : Prop where
  range : Exponent.InRange (Maths.top (acts x g))
  nonneg : 0 ≤ cs pt
  finite : cs pt ≠ ⊤

/-- The precondition gives it. -/
theorem good [Pre_scale_in_range.Facts] {a0 : FVec Ideal SCodes .bf16} {a1 : FVec Ideal ⟨1, ![256]⟩ .f32}
    {a2 : FVec Ideal SCache .fp8e4m3} {a3 : FVec Ideal SNum .f32} {a4 : FVec Ideal SWeights .fp8e4m3} {a5 a6 : FVec Ideal ⟨1, ![512]⟩ .f32}
    (h : Pre_scale_in_range.fn (F := Ideal) a0 a1 a2 a3 a4 a5 a6 = fun _ => 1#1) : Good a0 a1 a3 :=
  have s := Pre_scale_in_range.spec a0 a1 a2 a3 a4 a5 a6 h pt
  ⟨s.1, s.2.1, s.2.2⟩

end Cert.Expected

end
-- ==== Proof.KernelValue.lean ====
/-
  The kernel's result arrays are the expected ones.
-/
module

public import proofs.«01_k».proof.Proof.KernelArrays
public import proofs.«01_k».proof.Proof.Results
public import proofs.«01_k».proof.Proof.Expected

@[expose] public section

noncomputable section

namespace Cert.KernelIdeal.Arrays

open Idealize.ShloMosaic Cert.KernelIdeal Cert.KernelIdeal.Gen Idealize.ShloMosaic.TcCoe Cert

/-- A row of 256 as a matrix of one row. -/
theorem row256_apply (g : FVec Ideal S256 .f32) (l : Fin 256) :
    (shapeCast S1x256 g shapeCasts_S256_S1x256 : FVec Ideal S1x256 .f32) (ix2 0 l) = g (ix1 l) := by
  pointwise

/-- A row of 512 as a matrix of one row. -/
theorem row512_apply (g : FVec Ideal S512 .f32) (o : Fin 512) :
    (shapeCast S1x512 g shapeCasts_S512_S1x512 : FVec Ideal S1x512 .f32) (ix2 0 o) = g (ix1 o) := by
  pointwise

/-- A number as a matrix of one entry. -/
theorem num_apply (g : FVec Ideal S_ .f32) :
    (shapeCast S1x1 g shapeCasts_S_S1x1 : FVec Ideal S1x1 .f32) (ix2 0 0) = g Expected.pt :=
  congrArg g (funext fun a => a.elim0)

variable (m : (ℓ : Loc nD τ sig) → Buf (Elt Ideal) ℓ) (c : Dev nD)

/-- The kernel's third result: the scale. -/
theorem value9 (x : FVec Ideal S5x3x4x32x256 .bf16) (g : FVec Ideal S256 .f32) (cs : FVec Ideal S_ .f32)
    (hx : m ((c : Thread nD τ).loc main_arg0) = x) (hg : m ((c : Thread nD τ).loc main_arg1) = g) (h : Expected.Good x g cs) :
    (dats m 0 c).arrAt 9 cfg0.N = Expected.scale x g := by
  have e1 : (fun l => (shapeCast S1x256 g shapeCasts_S256_S1x256 : FVec Ideal S1x256 .f32) (ix2 0 l)) = fun l => g (ix1 l) :=
    funext (row256_apply g)
  have hA : Exponent.InRange (Maths.top (Scratch.inH x (shapeCast S1x256 g shapeCasts_S256_S1x256))) := by
    show Exponent.InRange (Maths.top (Maths.act _ fun l => (shapeCast S1x256 g shapeCasts_S256_S1x256 : FVec Ideal S1x256 .f32) (ix2 0 l)))
    rw [e1]; exact h.range
  rw [res9, in0, in1, hx, hg]
  refine (Results.out9 _ _ _ _ _ _ _ _ _ _ _ _ _ _ _ _ _ _ _ _ _ _ _ _ _ _ _ _ _ _ _ _ hA).trans ?_
  show (fun _ => Maths.scale (Maths.top (Maths.act _ fun l => (shapeCast S1x256 g shapeCasts_S256_S1x256 : FVec Ideal S1x256 .f32) (ix2 0 l)))) = _
  rw [e1]; rfl

/-- The kernel's second result: the codes. -/
theorem value8 (x : FVec Ideal S5x3x4x32x256 .bf16) (g : FVec Ideal S256 .f32) (cs : FVec Ideal S_ .f32)
    (hx : m ((c : Thread nD τ).loc main_arg0) = x) (hg : m ((c : Thread nD τ).loc main_arg1) = g) (h : Expected.Good x g cs) :
    (dats m 0 c).arrAt 8 cfg0.N = Expected.codes x g := by
  have e1 : (fun l => (shapeCast S1x256 g shapeCasts_S256_S1x256 : FVec Ideal S1x256 .f32) (ix2 0 l)) = fun l => g (ix1 l) :=
    funext (row256_apply g)
  have hA : Exponent.InRange (Maths.top (Scratch.inH x (shapeCast S1x256 g shapeCasts_S256_S1x256))) := by
    show Exponent.InRange (Maths.top (Maths.act _ fun l => (shapeCast S1x256 g shapeCasts_S256_S1x256 : FVec Ideal S1x256 .f32) (ix2 0 l)))
    rw [e1]; exact h.range
  rw [res8, in0, in1, hx, hg]
  funext y
  obtain ⟨b, f, i, j, l, rfl⟩ : ∃ (b : Fin 5) (f : Fin 3) (i : Fin 4) (j : Fin 32) (l : Fin 256), y = ix5 b f i j l := ⟨_, _, _, _, _, eq_ix5 y⟩
  refine (Results.out8 _ _ _ _ _ _ _ _ _ _ _ _ _ _ _ _ _ _ _ _ _ _ _ _ _ _ _ _ _ _ _ _ hA b f i j l).trans ?_
  show Maths.code (Maths.act _ fun l => (shapeCast S1x256 g shapeCasts_S256_S1x256 : FVec Ideal S1x256 .f32) (ix2 0 l)) b f i j l = _
  rw [e1]; rfl

/-- The kernel's first result: the output. -/
theorem value7 (x : FVec Ideal S5x3x4x32x256 .bf16) (g : FVec Ideal S256 .f32) (cache : FVec Ideal S5x2x4x32x256 .fp8e4m3)
    (cs : FVec Ideal S_ .f32) (w : FVec Ideal S3x3x3x256x512 .fp8e4m3) (ws bias : FVec Ideal S512 .f32)
    (hx : m ((c : Thread nD τ).loc main_arg0) = x) (hg : m ((c : Thread nD τ).loc main_arg1) = g)
    (hcache : m ((c : Thread nD τ).loc main_arg2) = cache) (hcs : m ((c : Thread nD τ).loc main_arg3) = cs)
    (hw : m ((c : Thread nD τ).loc main_arg4) = w) (hws : m ((c : Thread nD τ).loc main_arg5) = ws)
    (hbias : m ((c : Thread nD τ).loc main_arg6) = bias) (h : Expected.Good x g cs) :
    (dats m 0 c).arrAt 7 cfg0.N = Expected.out x g cache cs w ws bias := by
  have e1 : (fun l => (shapeCast S1x256 g shapeCasts_S256_S1x256 : FVec Ideal S1x256 .f32) (ix2 0 l)) = fun l => g (ix1 l) :=
    funext (row256_apply g)
  have hA : Exponent.InRange (Maths.top (Scratch.inH x (shapeCast S1x256 g shapeCasts_S256_S1x256))) := by
    show Exponent.InRange (Maths.top (Maths.act _ fun l => (shapeCast S1x256 g shapeCasts_S256_S1x256 : FVec Ideal S1x256 .f32) (ix2 0 l)))
    rw [e1]; exact h.range
  rw [res7, in0, in1, in2, in3, in4, in5, in6, hx, hg, hcache, hcs, hw, hws, hbias]
  funext y
  obtain ⟨b, f, i, j, o, rfl⟩ : ∃ (b : Fin 5) (f : Fin 3) (i : Fin 4) (j : Fin 32) (o : Fin 512), y = ix5 b f i j o := ⟨_, _, _, _, _, eq_ix5 y⟩
  refine (Results.out7 _ _ _ _ _ _ _ _ _ _ _ _ _ _ _ _ _ _ _ _ _ _ _ _ _ _ _ _ _ _ _ _ hA ?_ ?_ b f i j o).trans ?_
  · rw [num_apply]; exact h.nonneg
  · rw [num_apply]; exact h.finite
  show Maths.out (Maths.joined _ (Maths.code (Maths.act _ fun l => (shapeCast S1x256 g shapeCasts_S256_S1x256 : FVec Ideal S1x256 .f32) (ix2 0 l))))
    ((shapeCast S1x1 cs shapeCasts_S_S1x1 : FVec Ideal S1x1 .f32) (ix2 0 0))
    (Maths.scale (Maths.top (Maths.act _ fun l => (shapeCast S1x256 g shapeCasts_S256_S1x256 : FVec Ideal S1x256 .f32) (ix2 0 l)))) _
    (fun o => (shapeCast S1x512 ws shapeCasts_S512_S1x512 : FVec Ideal S1x512 .f32) (ix2 0 o))
    (fun o => (shapeCast S1x512 bias shapeCasts_S512_S1x512 : FVec Ideal S1x512 .f32) (ix2 0 o)) b f i j o = _
  rw [e1, num_apply, funext (row512_apply ws), funext (row512_apply bias)]; rfl

end Cert.KernelIdeal.Arrays

end
-- ==== Proof.ReferenceArrays.lean ====
/-
  The reference's arrays: its input blocks are the arguments (some with axes of extent 1 added), and each of its result arrays
  is the one block that its one grid point writes back.
-/
module

public import proofs.«01_k».proof.Proof.Gen.ReferenceIdeal.Value
public import Idealize.ShloMosaic.Lib.Pointwise
public import Idealize.ShloMosaic.Lib.StableHlo

@[expose] public section

noncomputable section

namespace Cert.ReferenceIdeal.Arrays

open Idealize.ShloMosaic Cert.ReferenceIdeal Cert.ReferenceIdeal.Gen Idealize.ShloMosaic.TcCoe Cert
open Idealize.ShloMosaic.Pipeline (Dat Cfg Window)

variable (m : (ℓ : Loc nD τ sig) → Buf (Elt Ideal) ℓ) (c : Dev nD)

/-- The one grid point. -/
def t₀ : Fin cfg0.N := ⟨0, by decide⟩

/-! ## The input blocks -/

/-- Input block 0 is argument 0. -/
theorem in0 : iblk m c 0 t₀ = m ((c : Thread nD τ).loc main_arg0) := by
  have hz : (fun a => (win0_0.index t₀) a * main_arg0.ty.shape.size a) = fun _ => 0 := funext fun a => by fin_cases a <;> decide
  have hr := fun f => Memref.read_access_unit_zero (Elt Ideal) main_arg0 hz (fun a => by fin_cases a <;> decide) f
  unfold iblk
  exact (hr _).trans (V_main_arg0 m c)

/-- Input block 2 is argument 2. -/
theorem in2 : iblk m c 2 t₀ = m ((c : Thread nD τ).loc main_arg2) := by
  have hz : (fun a => (win0_2.index t₀) a * main_arg2.ty.shape.size a) = fun _ => 0 := funext fun a => by fin_cases a <;> decide
  have hr := fun f => Memref.read_access_unit_zero (Elt Ideal) main_arg2 hz (fun a => by fin_cases a <;> decide) f
  unfold iblk
  exact (hr _).trans (V_main_arg2 m c)

/-- Input block 4 is argument 4. -/
theorem in4 : iblk m c 4 t₀ = m ((c : Thread nD τ).loc main_arg4) := by
  have hz : (fun a => (win0_4.index t₀) a * main_arg4.ty.shape.size a) = fun _ => 0 := funext fun a => by fin_cases a <;> decide
  have hr := fun f => Memref.read_access_unit_zero (Elt Ideal) main_arg4 hz (fun a => by fin_cases a <;> decide) f
  unfold iblk
  exact (hr _).trans (V_main_arg4 m c)

/-- Input block 1 is argument 1 in another shape. -/
theorem in1 : iblk m c 1 t₀ = shapeCast S1x1x1x1x256 (m ((c : Thread nD τ).loc main_arg1) : FVec Ideal S256 .f32) shapeCasts_S256_S1x1x1x1x256 := by
  have hz : (fun a => (win0_1.index t₀) a * main_v0.ty.shape.size a) = fun _ => 0 := funext fun a => by fin_cases a <;> decide
  have hr := fun f => Memref.read_access_unit_zero (Elt Ideal) main_v0 hz (fun a => by fin_cases a <;> decide) f
  have hv : V m c main_v0 = shapeCast S1x1x1x1x256 (m ((c : Thread nD τ).loc main_arg1) : FVec Ideal S256 .f32) shapeCasts_S256_S1x1x1x1x256 := by
    show StableHlo.after hostOps0 (fun b => m (c, b)) main_v0 = _
    after_results
    rfl
  unfold iblk
  exact (hr _).trans hv

/-- Input block 3 is argument 3 in another shape. -/
theorem in3 : iblk m c 3 t₀ = shapeCast S1x1x1x1x1 (m ((c : Thread nD τ).loc main_arg3) : FVec Ideal S_ .f32) shapeCasts_S_S1x1x1x1x1 := by
  have hz : (fun a => (win0_3.index t₀) a * main_v1.ty.shape.size a) = fun _ => 0 := funext fun a => by fin_cases a <;> decide
  have hr := fun f => Memref.read_access_unit_zero (Elt Ideal) main_v1 hz (fun a => by fin_cases a <;> decide) f
  have hv : V m c main_v1 = shapeCast S1x1x1x1x1 (m ((c : Thread nD τ).loc main_arg3) : FVec Ideal S_ .f32) shapeCasts_S_S1x1x1x1x1 := by
    show StableHlo.after hostOps0 (fun b => m (c, b)) main_v1 = _
    after_results
    rfl
  unfold iblk
  exact (hr _).trans hv

/-- Input block 5 is argument 5 in another shape. -/
theorem in5 : iblk m c 5 t₀ = shapeCast S1x512 (m ((c : Thread nD τ).loc main_arg5) : FVec Ideal S512 .f32) shapeCasts_S512_S1x512 := by
  have hz : (fun a => (win0_5.index t₀) a * main_v2.ty.shape.size a) = fun _ => 0 := funext fun a => by fin_cases a <;> decide
  have hr := fun f => Memref.read_access_unit_zero (Elt Ideal) main_v2 hz (fun a => by fin_cases a <;> decide) f
  have hv : V m c main_v2 = shapeCast S1x512 (m ((c : Thread nD τ).loc main_arg5) : FVec Ideal S512 .f32) shapeCasts_S512_S1x512 := by
    show StableHlo.after hostOps0 (fun b => m (c, b)) main_v2 = _
    after_results
    rfl
  unfold iblk
  exact (hr _).trans hv

/-- Input block 6 is argument 6 in another shape. -/
theorem in6 : iblk m c 6 t₀ = shapeCast S1x512 (m ((c : Thread nD τ).loc main_arg6) : FVec Ideal S512 .f32) shapeCasts_S512_S1x512 := by
  have hz : (fun a => (win0_6.index t₀) a * main_v3.ty.shape.size a) = fun _ => 0 := funext fun a => by fin_cases a <;> decide
  have hr := fun f => Memref.read_access_unit_zero (Elt Ideal) main_v3 hz (fun a => by fin_cases a <;> decide) f
  have hv : V m c main_v3 = shapeCast S1x512 (m ((c : Thread nD τ).loc main_arg6) : FVec Ideal S512 .f32) shapeCasts_S512_S1x512 := by
    show StableHlo.after hostOps0 (fun b => m (c, b)) main_v3 = _
    after_results
    rfl
  unfold iblk
  exact (hr _).trans hv

/-! ## The result arrays -/

/-- Result array 1 holds what the one grid point writes to it. -/
theorem res7 : (dats m 0 c).arrAt 7 cfg0.N
      = out0_7 (iblk m c 0 t₀) (iblk m c 1 t₀) (iblk m c 2 t₀) (iblk m c 3 t₀) (iblk m c 4 t₀) (iblk m c 5 t₀) (iblk m c 6 t₀) := by
  have ho := Value.blocks7 m c t₀ (by decide)
  have hz : (fun a => (win0_7.index t₀) a * main_v4_0.ty.shape.size a) = fun _ => 0 := funext fun a => by fin_cases a <;> decide
  have hr := fun f => Memref.read_access_unit_zero (Elt Ideal) main_v4_0 hz (fun a => by fin_cases a <;> decide) f
  exact (hr _).symm.trans (ho.trans (Value.flushed7 m c t₀))

/-- Result array 2 holds what the one grid point writes to it. -/
theorem res8 : (dats m 0 c).arrAt 8 cfg0.N
      = out0_8 (iblk m c 0 t₀) (iblk m c 1 t₀) (iblk m c 2 t₀) (iblk m c 3 t₀) (iblk m c 4 t₀) (iblk m c 5 t₀) (iblk m c 6 t₀) := by
  have ho := Value.blocks8 m c t₀ (by decide)
  have hz : (fun a => (win0_8.index t₀) a * main_v4_1.ty.shape.size a) = fun _ => 0 := funext fun a => by fin_cases a <;> decide
  have hr := fun f => Memref.read_access_unit_zero (Elt Ideal) main_v4_1 hz (fun a => by fin_cases a <;> decide) f
  exact (hr _).symm.trans (ho.trans (Value.flushed8 m c t₀))

/-- Result array 3 holds what the one grid point writes to it. -/
theorem res9 : (dats m 0 c).arrAt 9 cfg0.N
      = out0_9 (iblk m c 0 t₀) (iblk m c 1 t₀) (iblk m c 2 t₀) (iblk m c 3 t₀) (iblk m c 4 t₀) (iblk m c 5 t₀) (iblk m c 6 t₀) := by
  have ho := Value.blocks9 m c t₀ (by decide)
  have hz : (fun a => (win0_9.index t₀) a * main_v4_2.ty.shape.size a) = fun _ => 0 := funext fun a => by fin_cases a <;> decide
  have hr := fun f => Memref.read_access_unit_zero (Elt Ideal) main_v4_2 hz (fun a => by fin_cases a <;> decide) f
  exact (hr _).symm.trans (ho.trans (Value.flushed9 m c t₀))

end Cert.ReferenceIdeal.Arrays

end
-- ==== Proof.Reference.lean ====
/-
  The reference's three results at an index: its activations, its largest magnitude, its scale and codes, its padded frames, its
  windows side by side and the one product over them, each as the function of the mathematics.
-/
module

public import proofs.«01_k».proof.Proof.Maths
public import proofs.«01_k».proof.Proof.Gen.ReferenceIdeal.Value
public import Idealize.ShloMosaic.Lib.Pointwise

@[expose] public section

noncomputable section

namespace Cert.ReferenceIdeal.Readings

open Idealize.ShloMosaic Cert.ReferenceIdeal Cert.ReferenceIdeal.Gen Cert

/-! ## The arguments as functions of their coordinates -/

section
variable (x0 : FVec Ideal S5x3x4x32x256 .bf16) (x1 : FVec Ideal S1x1x1x1x256 .f32) (x2 : FVec Ideal S5x2x4x32x256 .fp8e4m3)
  (x3 : FVec Ideal S1x1x1x1x1 .f32) (x4 : FVec Ideal S3x3x3x256x512 .fp8e4m3) (x5 x6 : FVec Ideal S1x512 .f32)

/-- The activations. -/
abbrev inH : Maths.Frames := Maths.act (fun b f i j l => x0 (ix5 b f i j l)) (fun l => x1 (ix5 0 0 0 0 l))

/-- The codes of all frames. -/
abbrev inD : Fin 5 → Fin 5 → Fin 4 → Fin 32 → Fin 256 → EReal :=
  Maths.joined (fun b f i j l => x2 (ix5 b f i j l)) (Maths.code (inH x0 x1))

/-! ## Activations, scale, codes -/

/-- The activations. -/
theorem act_apply (b : Fin 5) (f : Fin 3) (i : Fin 4) (j : Fin 32) (l : Fin 256) :
    k0_pay3 (F := Ideal) x0 x1 (ix5 b f i j l) = inH x0 x1 b f i j l := by
  pointwise [k0_pay3, Maths.act, Maths.rms]

/-- The literal minus infinity. -/
theorem lit_bot : Ideal.ofBits .f32 0xFF800000#32 = ⊥ := by
  simp [Ideal.ofBits, Ideal.ieee]

/-- The largest of all magnitudes, over indices. -/
theorem fold_top (H : Maths.Frames) : Finset.fold max (⊥ : EReal) (fun y : S1x5x3x4x32x256.Idx => Maths.mag (H (y 1) (y 2) (y 3) (y 4) (y 5)))
    {y | reduces_S1x5x3x4x32x256_S1.drop y = ix1 0} = Maths.top H := by
  refine eq_of_forall_ge_iff fun c => ?_
  rw [Finset.fold_max_le, Maths.top_le]
  constructor
  · intro h b f i j l
    exact h.2 (ix6 0 b f i j l) (Finset.mem_filter.mpr ⟨Finset.mem_univ _, by
      funext a; obtain rfl : a = 0 := Subsingleton.elim _ _; exact Subsingleton.elim (α := Fin 1) _ _⟩)
  · exact fun h => ⟨bot_le, fun y _ => h _ _ _ _ _⟩

/-- The exponent of the scale. -/
theorem expo_apply : k0_pay4 (F := Ideal) x0 x1 (ix2 0 0) = Maths.expo (Maths.top (inH x0 x1)) := by
  have h : k0_pay4 (F := Ideal) x0 x1 (ix2 0 0) = Maths.expo (Finset.fold max (Ideal.ofBits .f32 0xFF800000#32)
      (fun y : S1x5x3x4x32x256.Idx => Maths.mag (k0_pay3 (F := Ideal) x0 x1 (ix5 (y 1) (y 2) (y 3) (y 4) (y 5))))
      {y | reduces_S1x5x3x4x32x256_S1.drop y = ix1 0}) := by
    pointwise [k0_pay4, Maths.expo, Maths.ratio, Maths.mag]
  rw [h, lit_bot, ← fold_top]
  refine congrArg Maths.expo (congrArg (fun u => Finset.fold max (⊥ : EReal) u {y | reduces_S1x5x3x4x32x256_S1.drop y = ix1 0}) ?_)
  funext y
  exact congrArg Maths.mag (act_apply x0 x1 _ _ _ _ _)

/-- The power of two at an index. -/
theorem exp2_apply (e : FVec Ideal S1x1 .f32) (y : S1x1.Idx) : (exp2 e : FVec Ideal S1x1 .f32) y = Ideal.exp2 (e y) := rfl

/-- The scale. -/
theorem scale_apply : k0_pay5 (F := Ideal) x0 x1 (ix2 0 0) = Maths.scale (Maths.top (inH x0 x1)) := by
  unfold k0_pay5
  rw [Maths.scale, ← expo_apply]
  exact exp2_apply _ _

/-- The codes at an index, from activations and exponent. -/
theorem codes_apply' (h : FVec Ideal S5x3x4x32x256 .f32) (e z : FVec Ideal S1x1 .f32)
    (b : Fin 5) (f : Fin 3) (i : Fin 4) (j : Fin 32) (l : Fin 256) :
    k0_pay7 (F := Ideal) h e z (ix5 b f i j l) = min (Ideal.ofBits .f32 0x43E00000#32)
      (max (Ideal.ofBits .f32 0xC3E00000#32) (h (ix5 b f i j l) * Ideal.exp2 (z (ix2 0 0) - e (ix2 0 0)))) := by
  pointwise [k0_pay7]
  rfl

/-- The literal 0. -/
theorem zeros_apply : k0_pay6 (F := Ideal) (ix2 0 0) = 0 := by
  pointwise [k0_pay6]

/-- The codes. -/
theorem codes_apply (b : Fin 5) (f : Fin 3) (i : Fin 4) (j : Fin 32) (l : Fin 256) :
    k0_pay7 (F := Ideal) (k0_pay3 (F := Ideal) x0 x1) (k0_pay4 (F := Ideal) x0 x1) (k0_pay6 (F := Ideal)) (ix5 b f i j l)
      = Maths.code (inH x0 x1) b f i j l := by
  rw [codes_apply', act_apply, expo_apply, zeros_apply, Maths.code, Maths.inv]

/-! ## The padded frames -/

/-- The scaled frames in their border of zeros. -/
abbrev pad : FVec Ideal S5x5x6x34x256 .bf16 :=
  k0_pay8 (F := Ideal) (k0_pay3 (F := Ideal) x0 x1) (k0_pay4 (F := Ideal) x0 x1) (k0_pay5 (F := Ideal) x0 x1) (k0_pay6 (F := Ideal)) x2 x3

/-- The scaled frames in their border of zeros, at an index. -/
theorem pad_apply (b f : Fin 5) (i : Fin 6) (j : Fin 34) (l : Fin 256) :
    pad x0 x1 x2 x3 (ix5 b f i j l) = Maths.padded (fun b f i j l => inD x0 x1 x2 b f i j l
      * Maths.frameScale (x3 (ix5 0 0 0 0 0)) (Maths.scale (Maths.top (inH x0 x1))) f) b f i j l := by
  have h : pad x0 x1 x2 x3 (ix5 b f i j l) =
    if h1 : (j : ℕ) < 33 then
      if h2 : (j : ℕ) < 1 then 0
      else
        if h3 : (i : ℕ) < 5 then
          if h4 : (i : ℕ) < 1 then 0
          else
            if h5 : (f : ℕ) < 2 then x2 (ix5 b ⟨f, by omega⟩ ⟨i - 1, by omega⟩ ⟨j - 1, by omega⟩ l) * x3 (ix5 0 0 0 0 0)
            else k0_pay7 (F := Ideal) (k0_pay3 (F := Ideal) x0 x1) (k0_pay4 (F := Ideal) x0 x1) (k0_pay6 (F := Ideal))
              (ix5 b ⟨f - 2, by omega⟩ ⟨i - 1, by omega⟩ ⟨j - 1, by omega⟩ l) * k0_pay5 (F := Ideal) x0 x1 (ix2 0 0)
        else 0
    else 0 := by
    have z : (((0#32 : BitVec 32).toInt : ℝ) : EReal) = 0 := by simp
    unfold pad
    generalize k0_pay3 (F := Ideal) x0 x1 = h
    generalize k0_pay4 (F := Ideal) x0 x1 = e
    generalize k0_pay5 (F := Ideal) x0 x1 = s
    generalize k0_pay6 (F := Ideal) = zz
    pointwise [k0_pay8]
    simp only [z]
  rw [h]
  unfold Maths.padded
  by_cases h0 : (1 ≤ (i : ℕ) ∧ (i : ℕ) ≤ 4) ∧ 1 ≤ (j : ℕ) ∧ (j : ℕ) ≤ 32
  · rw [dif_pos (by omega : (j : ℕ) < 33), dif_neg (by omega : ¬ (j : ℕ) < 1), dif_pos (by omega : (i : ℕ) < 5),
      dif_neg (by omega : ¬ (i : ℕ) < 1), dif_pos h0]
    unfold inD Maths.joined Maths.frameScale
    beta_reduce
    by_cases h5 : (f : ℕ) < 2
    · rw [dif_pos h5, dif_pos h5, if_pos h5]
    · rw [dif_neg h5, dif_neg h5, if_neg h5, codes_apply, scale_apply]
  · rw [dif_neg h0]
    split_ifs <;> first | rfl | omega

/-! ## The windows side by side -/

/-- A window lies inside the padded frames. -/
theorem inb_win (kt kh kw : Fin 3) : S5x5x6x34x256.Slices ![0, (kt : ℕ), (kh : ℕ), (kw : ℕ), 0] S5x3x4x32x256 := by
  revert kt kh kw; decide

/-- One tap's window of the padded frames. -/
abbrev win (P : FVec Ideal S5x5x6x34x256 .bf16) (kt kh kw : Fin 3) : FVec Ideal S5x3x4x32x256 .bf16 :=
  extractStridedSlice S5x3x4x32x256 ![0, (kt : ℕ), (kh : ℕ), (kw : ℕ), 0] P (inb_win kt kh kw)

/-- One tap's window at an index. -/
theorem win_apply (P : FVec Ideal S5x5x6x34x256 .bf16) (kt kh kw : Fin 3) (b : Fin 5) (f : Fin 3) (i : Fin 4) (j : Fin 32) (l : Fin 256) :
    win P kt kh kw (ix5 b f i j l) = P (ix5 b ⟨f + kt, by omega⟩ ⟨i + kh, by omega⟩ ⟨j + kw, by omega⟩ l) := by
  unfold win extractStridedSlice
  refine congrArg P ?_
  funext a
  apply Fin.ext
  fin_cases a <;> simp <;> omega

/-- The 27 windows side by side. -/
abbrev cols : FVec Ideal S5x3x4x32x6912 .bf16 :=
  k0_pay1 (F := Ideal) (pad x0 x1 x2 x3)
    (k0_pay9 (F := Ideal) (k0_pay3 (F := Ideal) x0 x1) (k0_pay4 (F := Ideal) x0 x1) (k0_pay5 (F := Ideal) x0 x1) (k0_pay6 (F := Ideal)) x2 x3)
    (k0_pay10 (F := Ideal) (k0_pay3 (F := Ideal) x0 x1) (k0_pay4 (F := Ideal) x0 x1) (k0_pay5 (F := Ideal) x0 x1) (k0_pay6 (F := Ideal)) x2 x3)
    (k0_pay11 (F := Ideal) (k0_pay3 (F := Ideal) x0 x1) (k0_pay4 (F := Ideal) x0 x1) (k0_pay5 (F := Ideal) x0 x1) (k0_pay6 (F := Ideal)) x2 x3)
    (k0_pay12 (F := Ideal) (k0_pay3 (F := Ideal) x0 x1) (k0_pay4 (F := Ideal) x0 x1) (k0_pay5 (F := Ideal) x0 x1) (k0_pay6 (F := Ideal)) x2 x3)
    (k0_pay13 (F := Ideal) (k0_pay3 (F := Ideal) x0 x1) (k0_pay4 (F := Ideal) x0 x1) (k0_pay5 (F := Ideal) x0 x1) (k0_pay6 (F := Ideal)) x2 x3)
    (k0_pay14 (F := Ideal) (k0_pay3 (F := Ideal) x0 x1) (k0_pay4 (F := Ideal) x0 x1) (k0_pay5 (F := Ideal) x0 x1) (k0_pay6 (F := Ideal)) x2 x3)
    (k0_pay15 (F := Ideal) (k0_pay3 (F := Ideal) x0 x1) (k0_pay4 (F := Ideal) x0 x1) (k0_pay5 (F := Ideal) x0 x1) (k0_pay6 (F := Ideal)) x2 x3)
    (k0_pay16 (F := Ideal) (k0_pay3 (F := Ideal) x0 x1) (k0_pay4 (F := Ideal) x0 x1) (k0_pay5 (F := Ideal) x0 x1) (k0_pay6 (F := Ideal)) x2 x3)
    (k0_pay17 (F := Ideal) (k0_pay3 (F := Ideal) x0 x1) (k0_pay4 (F := Ideal) x0 x1) (k0_pay5 (F := Ideal) x0 x1) (k0_pay6 (F := Ideal)) x2 x3)
    (k0_pay18 (F := Ideal) (k0_pay3 (F := Ideal) x0 x1) (k0_pay4 (F := Ideal) x0 x1) (k0_pay5 (F := Ideal) x0 x1) (k0_pay6 (F := Ideal)) x2 x3)
    (k0_pay19 (F := Ideal) (k0_pay3 (F := Ideal) x0 x1) (k0_pay4 (F := Ideal) x0 x1) (k0_pay5 (F := Ideal) x0 x1) (k0_pay6 (F := Ideal)) x2 x3)
    (k0_pay20 (F := Ideal) (k0_pay3 (F := Ideal) x0 x1) (k0_pay4 (F := Ideal) x0 x1) (k0_pay5 (F := Ideal) x0 x1) (k0_pay6 (F := Ideal)) x2 x3)
    (k0_pay21 (F := Ideal) (k0_pay3 (F := Ideal) x0 x1) (k0_pay4 (F := Ideal) x0 x1) (k0_pay5 (F := Ideal) x0 x1) (k0_pay6 (F := Ideal)) x2 x3)
    (k0_pay22 (F := Ideal) (k0_pay3 (F := Ideal) x0 x1) (k0_pay4 (F := Ideal) x0 x1) (k0_pay5 (F := Ideal) x0 x1) (k0_pay6 (F := Ideal)) x2 x3)
    (k0_pay23 (F := Ideal) (k0_pay3 (F := Ideal) x0 x1) (k0_pay4 (F := Ideal) x0 x1) (k0_pay5 (F := Ideal) x0 x1) (k0_pay6 (F := Ideal)) x2 x3)

/-- The 27 windows fit side by side. -/
theorem concats (w : Fin 27 → S5x3x4x32x256.Idx → Ideal .bf16) : Shape.Concatenates ((List.ofFn fun n : Fin 27 =>
    (⟨S5x3x4x32x256, w n⟩ : (s : Shape) × (s.Idx → Ideal .bf16))).map (·.1)) S5x3x4x32x6912 4 :=
  concatenates_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x256_S5x3x4x32x6912_d4

/-- The windows in the order they lie in. -/
theorem cols_eq : cols x0 x1 x2 x3 = concatenate S5x3x4x32x6912 4
    (List.ofFn fun n : Fin 27 => (⟨S5x3x4x32x256, win (pad x0 x1 x2 x3) ⟨n / 9, by omega⟩ ⟨n / 3 % 3, by omega⟩ ⟨n % 3, by omega⟩⟩ :
      (s : Shape) × (s.Idx → Ideal .bf16))) (concats _) := rfl

/-- The windows side by side at an index. -/
theorem cols_apply (b : Fin 5) (f : Fin 3) (i : Fin 4) (j : Fin 32) (kt kh kw : Fin 3) (l : Fin 256) :
    cols x0 x1 x2 x3 (ix5 b f i j ⟨((kt * 3 + kh) * 3 + kw) * 256 + l, by omega⟩)
      = pad x0 x1 x2 x3 (ix5 b ⟨f + kt, by omega⟩ ⟨i + kh, by omega⟩ ⟨j + kw, by omega⟩ l) := by
  refine (congrFun (cols_eq x0 x1 x2 x3) _).trans ((concatenate_ofFn_apply (t := S5x3x4x32x6912) (s₁ := S5x3x4x32x256) 4
    (fun n : Fin 27 => win (pad x0 x1 x2 x3) ⟨n / 9, by omega⟩ ⟨n / 3 % 3, by omega⟩ ⟨n % 3, by omega⟩) (concats _) rfl 256 rfl
    (ix5 b f i j ⟨((kt * 3 + kh) * 3 + kw) * 256 + l, by omega⟩)
    ⟨(kt * 3 + kh) * 3 + kw, by omega⟩ (show ((((kt : ℕ) * 3 + kh) * 3 + kw) * 256 + l) / 256 = (kt * 3 + kh) * 3 + kw by omega)
    (ix5 b f i j l) (show (l : ℕ) = ((((kt : ℕ) * 3 + kh) * 3 + kw) * 256 + l) % 256 by omega)
    (fun a ha => by fin_cases a <;> first | rfl | exact absurd rfl ha)).trans ?_)
  have e1 : (⟨((kt * 3 + kh) * 3 + kw : ℕ) / 9, by omega⟩ : Fin 3) = kt := by apply Fin.ext; simp only; omega
  have e2 : (⟨((kt * 3 + kh) * 3 + kw : ℕ) / 3 % 3, by omega⟩ : Fin 3) = kh := by apply Fin.ext; simp only; omega
  have e3 : (⟨((kt * 3 + kh) * 3 + kw : ℕ) % 3, by omega⟩ : Fin 3) = kw := by apply Fin.ext; simp only; omega
  simp only [e1, e2, e3]
  exact win_apply _ _ _ _ _ _ _ _ _

/-! ## The product -/

/-- A sum over a product of extents, axis by axis. -/
theorem sum_split {N m n : ℕ} (h : N = m * n) (g : Fin N → EReal) :
    ∑ x, g x = ∑ a : Fin m, ∑ b : Fin n, g ⟨a * n + b, by
      have := (finProdFinEquiv (a, b)).isLt; rw [h]; simpa [add_comm, mul_comm] using this⟩ := by
  subst h
  rw [← finProdFinEquiv.sum_comp, Fintype.sum_prod_type]
  refine Finset.sum_congr rfl fun a _ => Finset.sum_congr rfl fun b _ => congrArg g ?_
  apply Fin.ext
  simp [add_comm, mul_comm]

/-- The product at an index, scaled and shifted. -/
theorem dot_apply (v : FVec Ideal S5x3x4x32x6912 .bf16)
    (b : Fin 5) (f : Fin 3) (i : Fin 4) (j : Fin 32) (o : Fin 512) :
    k0_pay2 (F := Ideal) v x4 x5 x6 (ix5 b f i j o) = (∑ x : Fin 6912, v (ix5 b f i j x)
      * x4 (ix5 ⟨x / 2304, by omega⟩ ⟨x / 768 % 3, by omega⟩ ⟨x / 256 % 3, by omega⟩ ⟨x % 256, by omega⟩ o)) * x5 (ix2 0 o) + x6 (ix2 0 o) := by
  pointwise [k0_pay2]

/-- The convolution. -/
theorem out_apply (hs0 : 0 ≤ Maths.scale (Maths.top (inH x0 x1))) (hs1 : Maths.scale (Maths.top (inH x0 x1)) ≠ ⊤)
    (hc0 : 0 ≤ x3 (ix5 0 0 0 0 0)) (hc1 : x3 (ix5 0 0 0 0 0) ≠ ⊤) (b : Fin 5) (f : Fin 3) (i : Fin 4) (j : Fin 32) (o : Fin 512) :
    k0_pay2 (F := Ideal) (cols x0 x1 x2 x3) x4 x5 x6 (ix5 b f i j o)
      = Maths.out (inD x0 x1 x2) (x3 (ix5 0 0 0 0 0)) (Maths.scale (Maths.top (inH x0 x1)))
        (fun kt kh kw l o => x4 (ix5 kt kh kw l o)) (fun o => x5 (ix2 0 o)) (fun o => x6 (ix2 0 o)) b f i j o := by
  rw [dot_apply]
  unfold Maths.out
  refine congrArg (fun z => z * x5 (ix2 0 o) + x6 (ix2 0 o)) ?_
  rw [sum_split (m := 27) (n := 256) rfl, sum_split (m := 9) (n := 3) rfl, sum_split (m := 3) (n := 3) rfl]
  refine Finset.sum_congr rfl fun kt _ => Finset.sum_congr rfl fun kh _ => Finset.sum_congr rfl fun kw _ => ?_
  rw [← Maths.tap_scaled _ _ _ _ _ _ _ _ _ _ (Maths.frameScale (x3 (ix5 0 0 0 0 0)) (Maths.scale (Maths.top (inH x0 x1))))
    (fun f => by unfold Maths.frameScale; split <;> assumption) (fun f => by unfold Maths.frameScale; split <;> assumption)]
  unfold Maths.tap
  refine Finset.sum_congr rfl fun l _ => ?_
  refine congrArg₂ (· * ·) ((cols_apply x0 x1 x2 x3 b f i j kt kh kw l).trans (pad_apply _ _ _ _ _ _ _ _ _)) (congrArg x4 ?_)
  congr 1 <;> (apply Fin.ext; simp only; omega)

end

end Cert.ReferenceIdeal.Readings
end
-- ==== Proof.ReferenceValue.lean ====
/-
  The reference's result arrays are the expected ones.
-/
module

public import proofs.«01_k».proof.Proof.ReferenceArrays
public import proofs.«01_k».proof.Proof.Reference
public import proofs.«01_k».proof.Proof.Expected

@[expose] public section

noncomputable section

namespace Cert.ReferenceIdeal.Arrays

open Idealize.ShloMosaic Cert.ReferenceIdeal Cert.ReferenceIdeal.Gen Idealize.ShloMosaic.TcCoe Cert

/-! ## The blocks written, from the blocks read -/

section
variable (x0 : FVec Ideal S5x3x4x32x256 .bf16) (x1 : FVec Ideal S1x1x1x1x256 .f32) (x2 : FVec Ideal S5x2x4x32x256 .fp8e4m3)
  (x3 : FVec Ideal S1x1x1x1x1 .f32) (x4 : FVec Ideal S3x3x3x256x512 .fp8e4m3) (x5 x6 : FVec Ideal S1x512 .f32)

/-- The offsets are all 0. -/
theorem zeros5 : (![0, 0, 0, 0, 0] : Fin 5 → Nat) = fun _ => 0 := funext fun a => by fin_cases a <;> rfl
/-- The offsets are all 0. -/
theorem zeros2 : (![0, 0] : Fin 2 → Nat) = fun _ => 0 := funext fun a => by fin_cases a <;> rfl

/-- The third block is the scale. -/
theorem out9_eq : out0_9 (F := Ideal) x0 x1 x2 x3 x4 x5 x6 = k0_pay5 (F := Ideal) x0 x1 := by
  unfold_out out0_9
  rw [View.canon_unit_zero zeros2, View.ld_unit_zero zeros5, View.ld_unit_zero zeros5]

/-- The second block is the codes. -/
theorem out8_eq : out0_8 (F := Ideal) x0 x1 x2 x3 x4 x5 x6 = k0_pay7 (F := Ideal) (k0_pay3 (F := Ideal) x0 x1) (k0_pay4 (F := Ideal) x0 x1) (k0_pay6 (F := Ideal)) := by
  unfold_out out0_8
  rw [View.canon_unit_zero zeros5, View.ld_unit_zero zeros5, View.ld_unit_zero zeros5]

/-- The first block is the convolution. -/
theorem out7_eq : out0_7 (F := Ideal) x0 x1 x2 x3 x4 x5 x6 = k0_pay2 (F := Ideal) (Readings.cols x0 x1 x2 x3) x4 x5 x6 := by
  unfold_out out0_7
  rw [View.canon_unit_zero zeros5, View.ld_unit_zero zeros5, View.ld_unit_zero zeros5, View.ld_unit_zero zeros5, View.ld_unit_zero zeros5,
    View.ld_unit_zero zeros5, View.ld_unit_zero zeros2, View.ld_unit_zero zeros2]

end

/-! ## The arguments in the shapes the body takes -/

/-- A row of 256 with four axes of extent 1 before it. -/
theorem row256_apply (g : FVec Ideal S256 .f32) (l : Fin 256) :
    (shapeCast S1x1x1x1x256 g shapeCasts_S256_S1x1x1x1x256 : FVec Ideal S1x1x1x1x256 .f32) (ix5 0 0 0 0 l) = g (ix1 l) := by
  pointwise

/-- A row of 512 as a matrix of one row. -/
theorem row512_apply (g : FVec Ideal S512 .f32) (o : Fin 512) :
    (shapeCast S1x512 g shapeCasts_S512_S1x512 : FVec Ideal S1x512 .f32) (ix2 0 o) = g (ix1 o) := by
  pointwise

/-- A number as an array of one entry. -/
theorem num_apply (g : FVec Ideal S_ .f32) :
    (shapeCast S1x1x1x1x1 g shapeCasts_S_S1x1x1x1x1 : FVec Ideal S1x1x1x1x1 .f32) (ix5 0 0 0 0 0) = g Expected.pt :=
  congrArg g (funext fun a => a.elim0)

/-! ## The result arrays -/

variable (m : (ℓ : Loc nD τ sig) → Buf (Elt Ideal) ℓ) (c : Dev nD)

/-- The reference's third result: the scale. -/
theorem value9 (x : FVec Ideal S5x3x4x32x256 .bf16) (g : FVec Ideal S256 .f32)
    (hx : m ((c : Thread nD τ).loc main_arg0) = x) (hg : m ((c : Thread nD τ).loc main_arg1) = g) :
    (dats m 0 c).arrAt 9 cfg0.N = Expected.scale x g := by
  have e1 : (fun l => (shapeCast S1x1x1x1x256 g shapeCasts_S256_S1x1x1x1x256 : FVec Ideal S1x1x1x1x256 .f32) (ix5 0 0 0 0 l)) = fun l => g (ix1 l) :=
    funext (row256_apply g)
  rw [res9, out9_eq, in0, in1, hx, hg]
  funext y
  obtain ⟨p, q, rfl⟩ : ∃ (p q : Fin 1), y = ix2 p q := ⟨_, _, eq_ix2 y⟩
  obtain rfl : p = 0 := Subsingleton.elim _ _
  obtain rfl : q = 0 := Subsingleton.elim _ _
  refine (Readings.scale_apply _ _).trans ?_
  show Maths.scale (Maths.top (Maths.act _ fun l => (shapeCast S1x1x1x1x256 g shapeCasts_S256_S1x1x1x1x256 : FVec Ideal S1x1x1x1x256 .f32) (ix5 0 0 0 0 l))) = _
  rw [e1]; rfl

/-- The reference's second result: the codes. -/
theorem value8 (x : FVec Ideal S5x3x4x32x256 .bf16) (g : FVec Ideal S256 .f32)
    (hx : m ((c : Thread nD τ).loc main_arg0) = x) (hg : m ((c : Thread nD τ).loc main_arg1) = g) :
    (dats m 0 c).arrAt 8 cfg0.N = Expected.codes x g := by
  have e1 : (fun l => (shapeCast S1x1x1x1x256 g shapeCasts_S256_S1x1x1x1x256 : FVec Ideal S1x1x1x1x256 .f32) (ix5 0 0 0 0 l)) = fun l => g (ix1 l) :=
    funext (row256_apply g)
  rw [res8, out8_eq, in0, in1, hx, hg]
  funext y
  obtain ⟨b, f, i, j, l, rfl⟩ : ∃ (b : Fin 5) (f : Fin 3) (i : Fin 4) (j : Fin 32) (l : Fin 256), y = ix5 b f i j l := ⟨_, _, _, _, _, eq_ix5 y⟩
  refine (Readings.codes_apply _ _ b f i j l).trans ?_
  show Maths.code (Maths.act _ fun l => (shapeCast S1x1x1x1x256 g shapeCasts_S256_S1x1x1x1x256 : FVec Ideal S1x1x1x1x256 .f32) (ix5 0 0 0 0 l)) b f i j l = _
  rw [e1]; rfl

/-- The reference's first result: the output. -/
theorem value7 (x : FVec Ideal S5x3x4x32x256 .bf16) (g : FVec Ideal S256 .f32) (cache : FVec Ideal S5x2x4x32x256 .fp8e4m3)
    (cs : FVec Ideal S_ .f32) (w : FVec Ideal S3x3x3x256x512 .fp8e4m3) (ws bias : FVec Ideal S512 .f32)
    (hx : m ((c : Thread nD τ).loc main_arg0) = x) (hg : m ((c : Thread nD τ).loc main_arg1) = g)
    (hcache : m ((c : Thread nD τ).loc main_arg2) = cache) (hcs : m ((c : Thread nD τ).loc main_arg3) = cs)
    (hw : m ((c : Thread nD τ).loc main_arg4) = w) (hws : m ((c : Thread nD τ).loc main_arg5) = ws)
    (hbias : m ((c : Thread nD τ).loc main_arg6) = bias) (h : Expected.Good x g cs) :
    (dats m 0 c).arrAt 7 cfg0.N = Expected.out x g cache cs w ws bias := by
  have e1 : (fun l => (shapeCast S1x1x1x1x256 g shapeCasts_S256_S1x1x1x1x256 : FVec Ideal S1x1x1x1x256 .f32) (ix5 0 0 0 0 l)) = fun l => g (ix1 l) :=
    funext (row256_apply g)
  have e2 : Readings.inH x (shapeCast S1x1x1x1x256 g shapeCasts_S256_S1x1x1x1x256) = Expected.acts x g := by
    show Maths.act _ (fun l => (shapeCast S1x1x1x1x256 g shapeCasts_S256_S1x1x1x1x256 : FVec Ideal S1x1x1x1x256 .f32) (ix5 0 0 0 0 l)) = _
    rw [e1]; rfl
  have s := Exponent.scale_spec h.range (v := fun _ => Maths.ratio (Maths.top (Expected.acts x g))) rfl
  rw [res7, out7_eq, in0, in1, in2, in3, in4, in5, in6, hx, hg, hcache, hcs, hw, hws, hbias]
  funext y
  obtain ⟨b, f, i, j, o, rfl⟩ : ∃ (b : Fin 5) (f : Fin 3) (i : Fin 4) (j : Fin 32) (o : Fin 512), y = ix5 b f i j o := ⟨_, _, _, _, _, eq_ix5 y⟩
  refine (Readings.out_apply _ _ _ _ _ _ _ ?_ ?_ ?_ ?_ b f i j o).trans ?_
  · rw [e2]; exact s.2.2.1
  · rw [e2]; exact s.2.2.2
  · rw [num_apply]; exact h.nonneg
  · rw [num_apply]; exact h.finite
  show Maths.out (Maths.joined _ (Maths.code (Readings.inH x (shapeCast S1x1x1x1x256 g shapeCasts_S256_S1x1x1x1x256))))
    ((shapeCast S1x1x1x1x1 cs shapeCasts_S_S1x1x1x1x1 : FVec Ideal S1x1x1x1x1 .f32) (ix5 0 0 0 0 0))
    (Maths.scale (Maths.top (Readings.inH x (shapeCast S1x1x1x1x256 g shapeCasts_S256_S1x1x1x1x256)))) _
    (fun o => (shapeCast S1x512 ws shapeCasts_S512_S1x512 : FVec Ideal S1x512 .f32) (ix2 0 o))
    (fun o => (shapeCast S1x512 bias shapeCasts_S512_S1x512 : FVec Ideal S1x512 .f32) (ix2 0 o)) b f i j o = _
  rw [e2, num_apply, funext (row512_apply ws), funext (row512_apply bias)]; rfl

end Cert.ReferenceIdeal.Arrays

end
-- ==== Proof.lean ====
/-
  The claims: every program runs and leaves its arguments alone, and the kernel's three results are the reference's
  wherever the precondition holds.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.KernelValue
public import proofs.«01_k».proof.Proof.ReferenceValue

@[expose] public section

noncomputable section

namespace Cert.Proof

open Idealize.ShloMosaic Idealize.SL.Sem Idealize.ShloMosaic.TcCoe

/-- Both programs end with the expected output, codes and scale in their result arrays. -/
theorem algebraic : Cert.algebraic_KernelIdeal_ReferenceIdeal_pre_scale_in_range (hKernelIdeal := Cert.KernelIdeal.Gen.facts)
    (hReferenceIdeal := Cert.ReferenceIdeal.Gen.facts) (hPre_scale_in_range := Cert.Pre_scale_in_range.facts) := by
  intro m g m' g' hpre hargs
  have hpre' : ∀ c : Dev Cert.KernelIdeal.nD, Expected.Good (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg3)) :=
    fun c => @Expected.good Cert.Pre_scale_in_range.facts _ _ _ _ _ _ _ (hpre c)
  refine ⟨fun c => Expected.out (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)),
    fun c => Expected.codes (m ((c : Thread Cert.KernelIdeal.nD Cert.KernelIdeal.τ).loc Cert.KernelIdeal.main_arg0))
      (m ((c : Thread Cert.KernelIdeal.nD Cert.KernelIdeal.τ).loc Cert.KernelIdeal.main_arg1)),
    fun c => Expected.scale (m ((c : Thread Cert.KernelIdeal.nD Cert.KernelIdeal.τ).loc Cert.KernelIdeal.main_arg0))
      (m ((c : Thread Cert.KernelIdeal.nD Cert.KernelIdeal.τ).loc Cert.KernelIdeal.main_arg1)), ?_, ?_⟩
  · refine (θ_run Cert.KernelIdeal.defs _ _).mono (fun r h c => ?_) (Cert.KernelIdeal.Value.run_blocks (F := Ideal) m g)
    obtain ⟨h7, h8, h9, hrest⟩ := h c
    exact ⟨h7.trans (KernelIdeal.Arrays.value7 m c _ _ _ _ _ _ _ rfl rfl rfl rfl rfl rfl rfl (hpre' c)),
      h8.trans (KernelIdeal.Arrays.value8 m c _ _ _ rfl rfl (hpre' c)),
      h9.trans (KernelIdeal.Arrays.value9 m c _ _ _ rfl rfl (hpre' c)), hrest⟩
  · refine (θ_run Cert.ReferenceIdeal.defs _ _).mono (fun r h c => ?_) (Cert.ReferenceIdeal.Value.run_blocks (F := Ideal) m' g')
    obtain ⟨h7, h8, h9, hrest⟩ := h c
    obtain ⟨a0, a1, a2, a3, a4, a5, a6⟩ := hargs c
    exact ⟨h7.trans (ReferenceIdeal.Arrays.value7 m' c _ _ _ _ _ _ _ a0 a1 a2 a3 a4 a5 a6 (hpre' c)),
      h8.trans (ReferenceIdeal.Arrays.value8 m' c _ _ a0 a1),
      h9.trans (ReferenceIdeal.Arrays.value9 m' c _ _ a0 a1), hrest⟩

/-- All claims together. -/
theorem claim : Cert.Claim := ⟨Cert.Kernel.Gen.facts, Cert.KernelIdeal.Gen.facts, Cert.ReferenceIdeal.Gen.facts, Cert.Pre_scale_in_range.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
